-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_divisible [hPre_finite_and_divisible : Cert.Pre_finite_and_divisible.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_divisible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_divisible [hPre_finite_and_divisible : Cert.Pre_finite_and_divisible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_divisible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_divisible [hKernelIdeal : Cert.KernelIdeal.Facts] [hPre_finite_and_divisible : Cert.Pre_finite_and_divisible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_divisible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_divisible [hReferenceIdeal : Cert.ReferenceIdeal.Facts] [hPre_finite_and_divisible : Cert.Pre_finite_and_divisible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_divisible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_divisible [hKernelIdeal : Cert.KernelIdeal.Facts] [hReferenceIdeal : Cert.ReferenceIdeal.Facts] [hPre_finite_and_divisible : Cert.Pre_finite_and_divisible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_divisible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v277) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_divisible : Cert.Pre_finite_and_divisible.Facts),
    quiescent_Kernel (hKernel := hKernel)
    ∧ quiescent_KernelIdeal (hKernelIdeal := hKernelIdeal)
    ∧ quiescent_KernelIdeal_pre_finite_and_divisible (hKernelIdeal := hKernelIdeal) (hPre_finite_and_divisible := hPre_finite_and_divisible)
    ∧ quiescent_ReferenceIdeal (hReferenceIdeal := hReferenceIdeal)
    ∧ quiescent_ReferenceIdeal_pre_finite_and_divisible (hReferenceIdeal := hReferenceIdeal) (hPre_finite_and_divisible := hPre_finite_and_divisible)
    ∧ preserves_Kernel_KernelIdeal
    ∧ algebraic_KernelIdeal_ReferenceIdeal_pre_finite_and_divisible (hKernelIdeal := hKernelIdeal) (hReferenceIdeal := hReferenceIdeal) (hPre_finite_and_divisible := hPre_finite_and_divisible)
-- ==== Pre_finite_and_divisible.lean ====
abbrev S1x8x1024x64 : Shape := ⟨4, ![1, 8, 1024, 64]⟩
abbrev S_ : Shape := ⟨0, ![]⟩
abbrev S1x8x1024 : Shape := ⟨3, ![1, 8, 1024]⟩
abbrev S8 : Shape := ⟨1, ![8]⟩
abbrev S1x8 : Shape := ⟨2, ![1, 8]⟩
abbrev S1x8x1 : Shape := ⟨3, ![1, 8, 1]⟩
abbrev S8192 : Shape := ⟨1, ![8192]⟩
abbrev S8192x64 : Shape := ⟨2, ![8192, 64]⟩
abbrev S512x64 : Shape := ⟨2, ![512, 64]⟩
abbrev S8192x1 : Shape := ⟨2, ![8192, 1]⟩
abbrev S1x8x64x64 : Shape := ⟨4, ![1, 8, 64, 64]⟩
abbrev S1x8x1024x4 : Shape := ⟨4, ![1, 8, 1024, 4]⟩
abbrev S1 : Shape := ⟨1, ![1]⟩
abbrev S1x1x1 : Shape := ⟨3, ![1, 1, 1]⟩
abbrev S1x8x1024x1 : Shape := ⟨4, ![1, 8, 1024, 1]⟩
abbrev S1x8x1024x3 : Shape := ⟨4, ![1, 8, 1024, 3]⟩

class Facts : Prop where
  reducesTo_S1x8x1024x64_S1x8x1024_d3 : S1x8x1024x64.ReducesTo [3] S1x8x1024
  h_S_ : 0 < S_.numel
  shapeCasts_S8_S1x8 : S8.ShapeCasts S1x8
  bcast_S_S1x8 : S_.BroadcastsInDim S1x8 (![] : Fin 0 → Fin S1x8.rank)
  bcast_S1x8_S1x8x1_0_1 : S1x8.BroadcastsInDim S1x8x1 (![0, 1] : Fin 2 → Fin S1x8x1.rank)
  bcast_S1x8x1_S1x8x1024_0_1_2 : S1x8x1.BroadcastsInDim S1x8x1024 (![0, 1, 2] : Fin 3 → Fin S1x8x1024.rank)
  shapeCasts_S1x8x1024_S8192 : S1x8x1024.ShapeCasts S8192
  shapeCasts_S1x8x1024x64_S8192x64 : S1x8x1024x64.ShapeCasts S8192x64
  bcast_S_S512x64 : S_.BroadcastsInDim S512x64 (![] : Fin 0 → Fin S512x64.rank)
  bcast_S8192_S8192x1_0 : S8192.BroadcastsInDim S8192x1 (![0] : Fin 1 → Fin S8192x1.rank)
  shapeCasts_S512x64_S1x8x64x64 : S512x64.ShapeCasts S1x8x64x64
  sliceFits_S1x8x1024x64_S1x8x1024x4 : S1x8x1024x64.Slices (fun _ => 0) S1x8x1024x4
  bcast_S1_S1x1x1_0 : S1.BroadcastsInDim S1x1x1 (![0] : Fin 1 → Fin S1x1x1.rank)
  bcast_S8_S1x8x1_1 : S8.BroadcastsInDim S1x8x1 (![1] : Fin 1 → Fin S1x8x1.rank)
  bcast_S_S1x8x1024x64 : S_.BroadcastsInDim S1x8x1024x64 (![] : Fin 0 → Fin S1x8x1024x64.rank)
  slices_S1x8x1024x4_S1x8x1024x1_0_0_0_0 : S1x8x1024x4.Slices ![0, 0, 0, 0] S1x8x1024x1
  shapeCasts_S1x8x1024x1_S1x8x1024 : S1x8x1024x1.ShapeCasts S1x8x1024
  bcast_S_S1x1x1 : S_.BroadcastsInDim S1x1x1 (![] : Fin 0 → Fin S1x1x1.rank)
  bcast_S_S1x8x1 : S_.BroadcastsInDim S1x8x1 (![] : Fin 0 → Fin S1x8x1.rank)
  bcast_S_S1x8x1024 : S_.BroadcastsInDim S1x8x1024 (![] : Fin 0 → Fin S1x8x1024.rank)
  bcast_S1x1x1_S1x8x1024_0_1_2 : S1x1x1.BroadcastsInDim S1x8x1024 (![0, 1, 2] : Fin 3 → Fin S1x8x1024.rank)
  bcast_S1x8x1024_S1x8x1024x1_0_1_2 : S1x8x1024.BroadcastsInDim S1x8x1024x1 (![0, 1, 2] : Fin 3 → Fin S1x8x1024x1.rank)
  concatenates_S1x8x1024x1_S1x8x1024x1_S1x8x1024x1_S1x8x1024x3_d3 : Shape.Concatenates [S1x8x1024x1, S1x8x1024x1, S1x8x1024x1] S1x8x1024x3 3
  bcast_S_S1x8x1024x1 : S_.BroadcastsInDim S1x8x1024x1 (![] : Fin 0 → Fin S1x8x1024x1.rank)
  bcast_S1x8x1024x1_S1x8x1024x64_0_1_2_3 : S1x8x1024x1.BroadcastsInDim S1x8x1024x64 (![0, 1, 2, 3] : Fin 4 → Fin S1x8x1024x64.rank)
  slices_S1x8x1024x4_S1x8x1024x1_0_0_0_1 : S1x8x1024x4.Slices ![0, 0, 0, 1] S1x8x1024x1
  slices_S1x8x1024x4_S1x8x1024x1_0_0_0_2 : S1x8x1024x4.Slices ![0, 0, 0, 2] S1x8x1024x1
  slices_S1x8x1024x4_S1x8x1024x1_0_0_0_3 : S1x8x1024x4.Slices ![0, 0, 0, 3] S1x8x1024x1
  scatter_S512x64_S8192x1_S8192x64_1_0_0_1_wf : ScatterDims.WF S512x64 S8192x1 S8192x64 [1] [0] [0] 1
  gather_S1x8x64x64_S1x8x1024x3_S1x8x1024x64_3_012_n_n_012_3_11164_wf : GatherDims.WF S1x8x64x64 S1x8x1024x3 S1x8x1024x64 [3] [0, 1, 2] [] [0, 1, 2] [] 3 ![1, 1, 1, 64]
  dot_S1x8x1024x64_S1x8x1024x64_S1x8x1024_3_3_n_n_012_012_wf : DotDims.WF S1x8x1024x64 S1x8x1024x64 S1x8x1024 [3] [3] [] [] [0, 1, 2] [0, 1, 2]

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S512x64_S8192x1_S8192x64_1_0_0_1 : ScatterDims S512x64 S8192x1 S8192x64 where
  updateWindowDims := [1]
  insertedWindowDims := [0]
  scatterDimsToOperandDims := [0]
  indexVectorDim := 1
  wf := scatter_S512x64_S8192x1_S8192x64_1_0_0_1_wf
def gather_S1x8x64x64_S1x8x1024x3_S1x8x1024x64_3_012_n_n_012_3_11164 : GatherDims S1x8x64x64 S1x8x1024x3 S1x8x1024x64 where
  offsetDims := [3]
  collapsedSliceDims := [0, 1, 2]
  operandBatchingDims := []
  startIndicesBatchingDims := []
  startIndexMap := [0, 1, 2]
  indexVectorDim := 3
  sliceSizes := ![1, 1, 1, 64]
  wf := gather_S1x8x64x64_S1x8x1024x3_S1x8x1024x64_3_012_n_n_012_3_11164_wf
def dot_S1x8x1024x64_S1x8x1024x64_S1x8x1024_3_3_n_n_012_012 : DotDims S1x8x1024x64 S1x8x1024x64 S1x8x1024 where
  lhsContracting := [3]
  rhsContracting := [3]
  lhsNonContracting := []
  rhsNonContracting := []
  lhsBatch := [0, 1, 2]
  rhsBatch := [0, 1, 2]
  wf := dot_S1x8x1024x64_S1x8x1024x64_S1x8x1024_3_3_n_n_012_012_wf

def fn_argmax {F : FTy → Type} [FloatOps F] (arg0 : FVec F S1x8x1024x64 .f32) : IVec S1x8x1024 32 :=
  let v0 : IVec S1x8x1024x64 32 := iotaInDim S1x8x1024x64 32 3
  let cst : FVec F S_ .f32 := constant S_ .f32 0xFF800000#32
  let c : IVec S_ 32 := constantI S_ 32 0#32
  let v1_0 : FVec F S1x8x1024 .f32 := (fun x y u v j => (Host.argReduce reducer_argmax_f32_i32 x y u v reducesTo_S1x8x1024x64_S1x8x1024_d3 h_S_ j).1) arg0 v0 cst c
  let v1_1 : IVec S1x8x1024 32 := (fun x y u v j => (Host.argReduce reducer_argmax_f32_i32 x y u v reducesTo_S1x8x1024x64_S1x8x1024_d3 h_S_ j).2) arg0 v0 cst c
  v1_1

def fn_part8 {F : FTy → Type} [FloatOps F] (main_v126 : IVec S1x8x1024x64 1) (main_v152 : FVec F S1x8x1024x1 .f32) (main_v153 : FVec F S1x8x1024x1 .f32) : IVec S1x8x1024x64 1 :=
  let main_v154 : FVec F S1x8x1024x1 .f32 := addf main_v152 main_v153
  let main_cst_34 : FVec F S_ .f32 := constant S_ .f32 0x00000000#32
  let main_v155 : FVec F S1x8x1024x1 .f32 := broadcastInDim S1x8x1024x1 ![] bcast_S_S1x8x1024x1 main_cst_34
  let main_v156 : IVec S1x8x1024x1 1 := cmpf .une main_v154 main_v155
  let main_v157 : IVec S1x8x1024x64 1 := broadcastInDim S1x8x1024x64 ![0, 1, 2, 3] bcast_S1x8x1024x1_S1x8x1024x64_0_1_2_3 main_v156
  let main_v158 : IVec S1x8x1024x64 1 := andi main_v126 main_v157
  main_v158

def fn_part7 {F : FTy → Type} [FloatOps F] (main_arg2 : FVec F S1x8x1024x64 .f32) (main_v14 : FVec F S1x8x64x64 .f32) (main_v19 : IVec S1x8x1 32) (main_v126 : IVec S1x8x1024x64 1) (main_v128 : IVec S1x8x1024 32) (main_v133 : IVec S1x1x1 32) (main_c_29 : IVec S_ 32) : IVec S1x8x1024x64 1 :=
  let main_v134 : IVec S1x8x1 32 := broadcastInDim S1x8x1 ![] bcast_S_S1x8x1 main_c_29
  let main_v135 : IVec S1x8x1 1 := cmpi .slt main_v19 main_v134
  let main_c_30 : IVec S_ 32 := constantI S_ 32 8#32
  let main_v136 : IVec S1x8x1 32 := broadcastInDim S1x8x1 ![] bcast_S_S1x8x1 main_c_30
  let main_v137 : IVec S1x8x1 32 := addi main_v19 main_v136
  let main_v138 : IVec S1x8x1 32 := select main_v135 main_v137 main_v19
  let main_c_31 : IVec S_ 32 := constantI S_ 32 0#32
  let main_v139 : IVec S1x8x1024 32 := broadcastInDim S1x8x1024 ![] bcast_S_S1x8x1024 main_c_31
  let main_v140 : IVec S1x8x1024 1 := cmpi .slt main_v128 main_v139
  let main_c_32 : IVec S_ 32 := constantI S_ 32 64#32
  let main_v141 : IVec S1x8x1024 32 := broadcastInDim S1x8x1024 ![] bcast_S_S1x8x1024 main_c_32
  let main_v142 : IVec S1x8x1024 32 := addi main_v128 main_v141
  let main_v143 : IVec S1x8x1024 32 := select main_v140 main_v142 main_v128
  let main_v144 : IVec S1x8x1024 32 := broadcastInDim S1x8x1024 ![0, 1, 2] bcast_S1x1x1_S1x8x1024_0_1_2 main_v133
  let main_v145 : IVec S1x8x1024 32 := broadcastInDim S1x8x1024 ![0, 1, 2] bcast_S1x8x1_S1x8x1024_0_1_2 main_v138
  let main_v146 : IVec S1x8x1024x1 32 := broadcastInDim S1x8x1024x1 ![0, 1, 2] bcast_S1x8x1024_S1x8x1024x1_0_1_2 main_v144
  let main_v147 : IVec S1x8x1024x1 32 := broadcastInDim S1x8x1024x1 ![0, 1, 2] bcast_S1x8x1024_S1x8x1024x1_0_1_2 main_v145
  let main_v148 : IVec S1x8x1024x1 32 := broadcastInDim S1x8x1024x1 ![0, 1, 2] bcast_S1x8x1024_S1x8x1024x1_0_1_2 main_v143
  let main_v149 : IVec S1x8x1024x3 32 := concatenate S1x8x1024x3 3 [⟨S1x8x1024x1, main_v146⟩, ⟨S1x8x1024x1, main_v147⟩, ⟨S1x8x1024x1, main_v148⟩] concatenates_S1x8x1024x1_S1x8x1024x1_S1x8x1024x1_S1x8x1024x3_d3
  let main_v150 : FVec F S1x8x1024x64 .f32 := (fun x i => Host.gather gather_S1x8x64x64_S1x8x1024x3_S1x8x1024x64_3_012_n_n_012_3_11164 x i) main_v14 main_v149
  let main_v151 : FVec F S1x8x1024 .f32 := (fun l r => Host.dotGeneral dot_S1x8x1024x64_S1x8x1024x64_S1x8x1024_3_3_n_n_012_012 none l r) main_v150 main_arg2
  let main_v152 : FVec F S1x8x1024x1 .f32 := broadcastInDim S1x8x1024x1 ![0, 1, 2] bcast_S1x8x1024_S1x8x1024x1_0_1_2 main_v151
  let main_cst_33 : FVec F S_ .f32 := constant S_ .f32 0x358637BD#32
  let main_v153 : FVec F S1x8x1024x1 .f32 := broadcastInDim S1x8x1024x1 ![] bcast_S_S1x8x1024x1 main_cst_33
  fn_part8 (F := F) main_v126 main_v152 main_v153

def fn_part6 {F : FTy → Type} [FloatOps F] (main_arg2 : FVec F S1x8x1024x64 .f32) (main_v14 : FVec F S1x8x64x64 .f32) (main_indices : IVec S1x8x1024x4 32) (main_v17 : IVec S1x1x1 32) (main_v19 : IVec S1x8x1 32) (main_v94 : IVec S1x8x1024x64 1) (main_v111 : IVec S1x8x1024 32) (main_v113 : IVec S1x8x1024 32) (main_v114 : IVec S1x8x1024x1 32) : IVec S1x8x1024x64 1 :=
  let main_v115 : IVec S1x8x1024x1 32 := broadcastInDim S1x8x1024x1 ![0, 1, 2] bcast_S1x8x1024_S1x8x1024x1_0_1_2 main_v113
  let main_v116 : IVec S1x8x1024x1 32 := broadcastInDim S1x8x1024x1 ![0, 1, 2] bcast_S1x8x1024_S1x8x1024x1_0_1_2 main_v111
  let main_v117 : IVec S1x8x1024x3 32 := concatenate S1x8x1024x3 3 [⟨S1x8x1024x1, main_v114⟩, ⟨S1x8x1024x1, main_v115⟩, ⟨S1x8x1024x1, main_v116⟩] concatenates_S1x8x1024x1_S1x8x1024x1_S1x8x1024x1_S1x8x1024x3_d3
  let main_v118 : FVec F S1x8x1024x64 .f32 := (fun x i => Host.gather gather_S1x8x64x64_S1x8x1024x3_S1x8x1024x64_3_012_n_n_012_3_11164 x i) main_v14 main_v117
  let main_v119 : FVec F S1x8x1024 .f32 := (fun l r => Host.dotGeneral dot_S1x8x1024x64_S1x8x1024x64_S1x8x1024_3_3_n_n_012_012 none l r) main_v118 main_arg2
  let main_v120 : FVec F S1x8x1024x1 .f32 := broadcastInDim S1x8x1024x1 ![0, 1, 2] bcast_S1x8x1024_S1x8x1024x1_0_1_2 main_v119
  let main_cst_25 : FVec F S_ .f32 := constant S_ .f32 0x358637BD#32
  let main_v121 : FVec F S1x8x1024x1 .f32 := broadcastInDim S1x8x1024x1 ![] bcast_S_S1x8x1024x1 main_cst_25
  let main_v122 : FVec F S1x8x1024x1 .f32 := addf main_v120 main_v121
  let main_cst_26 : FVec F S_ .f32 := constant S_ .f32 0x00000000#32
  let main_v123 : FVec F S1x8x1024x1 .f32 := broadcastInDim S1x8x1024x1 ![] bcast_S_S1x8x1024x1 main_cst_26
  let main_v124 : IVec S1x8x1024x1 1 := cmpf .une main_v122 main_v123
  let main_v125 : IVec S1x8x1024x64 1 := broadcastInDim S1x8x1024x64 ![0, 1, 2, 3] bcast_S1x8x1024x1_S1x8x1024x64_0_1_2_3 main_v124
  let main_v126 : IVec S1x8x1024x64 1 := andi main_v94 main_v125
  let main_v127 : IVec S1x8x1024x1 32 := (extractStridedSlice S1x8x1024x1 ![0, 0, 0, 3] · slices_S1x8x1024x4_S1x8x1024x1_0_0_0_3) main_indices
  let main_v128 : IVec S1x8x1024 32 := shapeCast S1x8x1024 main_v127 shapeCasts_S1x8x1024x1_S1x8x1024
  let main_c_27 : IVec S_ 32 := constantI S_ 32 0#32
  let main_v129 : IVec S1x1x1 32 := broadcastInDim S1x1x1 ![] bcast_S_S1x1x1 main_c_27
  let main_v130 : IVec S1x1x1 1 := cmpi .slt main_v17 main_v129
  let main_c_28 : IVec S_ 32 := constantI S_ 32 1#32
  let main_v131 : IVec S1x1x1 32 := broadcastInDim S1x1x1 ![] bcast_S_S1x1x1 main_c_28
  let main_v132 : IVec S1x1x1 32 := addi main_v17 main_v131
  let main_v133 : IVec S1x1x1 32 := select main_v130 main_v132 main_v17
  let main_c_29 : IVec S_ 32 := constantI S_ 32 0#32
  fn_part7 (F := F) main_arg2 main_v14 main_v19 main_v126 main_v128 main_v133 main_c_29

def fn_part5 {F : FTy → Type} [FloatOps F] (main_arg2 : FVec F S1x8x1024x64 .f32) (main_v14 : FVec F S1x8x64x64 .f32) (main_indices : IVec S1x8x1024x4 32) (main_v17 : IVec S1x1x1 32) (main_v19 : IVec S1x8x1 32) (main_v94 : IVec S1x8x1024x64 1) (main_v96 : IVec S1x8x1024 32) : IVec S1x8x1024x64 1 :=
  let main_c_19 : IVec S_ 32 := constantI S_ 32 0#32
  let main_v97 : IVec S1x1x1 32 := broadcastInDim S1x1x1 ![] bcast_S_S1x1x1 main_c_19
  let main_v98 : IVec S1x1x1 1 := cmpi .slt main_v17 main_v97
  let main_c_20 : IVec S_ 32 := constantI S_ 32 1#32
  let main_v99 : IVec S1x1x1 32 := broadcastInDim S1x1x1 ![] bcast_S_S1x1x1 main_c_20
  let main_v100 : IVec S1x1x1 32 := addi main_v17 main_v99
  let main_v101 : IVec S1x1x1 32 := select main_v98 main_v100 main_v17
  let main_c_21 : IVec S_ 32 := constantI S_ 32 0#32
  let main_v102 : IVec S1x8x1 32 := broadcastInDim S1x8x1 ![] bcast_S_S1x8x1 main_c_21
  let main_v103 : IVec S1x8x1 1 := cmpi .slt main_v19 main_v102
  let main_c_22 : IVec S_ 32 := constantI S_ 32 8#32
  let main_v104 : IVec S1x8x1 32 := broadcastInDim S1x8x1 ![] bcast_S_S1x8x1 main_c_22
  let main_v105 : IVec S1x8x1 32 := addi main_v19 main_v104
  let main_v106 : IVec S1x8x1 32 := select main_v103 main_v105 main_v19
  let main_c_23 : IVec S_ 32 := constantI S_ 32 0#32
  let main_v107 : IVec S1x8x1024 32 := broadcastInDim S1x8x1024 ![] bcast_S_S1x8x1024 main_c_23
  let main_v108 : IVec S1x8x1024 1 := cmpi .slt main_v96 main_v107
  let main_c_24 : IVec S_ 32 := constantI S_ 32 64#32
  let main_v109 : IVec S1x8x1024 32 := broadcastInDim S1x8x1024 ![] bcast_S_S1x8x1024 main_c_24
  let main_v110 : IVec S1x8x1024 32 := addi main_v96 main_v109
  let main_v111 : IVec S1x8x1024 32 := select main_v108 main_v110 main_v96
  let main_v112 : IVec S1x8x1024 32 := broadcastInDim S1x8x1024 ![0, 1, 2] bcast_S1x1x1_S1x8x1024_0_1_2 main_v101
  let main_v113 : IVec S1x8x1024 32 := broadcastInDim S1x8x1024 ![0, 1, 2] bcast_S1x8x1_S1x8x1024_0_1_2 main_v106
  let main_v114 : IVec S1x8x1024x1 32 := broadcastInDim S1x8x1024x1 ![0, 1, 2] bcast_S1x8x1024_S1x8x1024x1_0_1_2 main_v112
  fn_part6 (F := F) main_arg2 main_v14 main_indices main_v17 main_v19 main_v94 main_v111 main_v113 main_v114

def fn_part4 {F : FTy → Type} [FloatOps F] (main_arg2 : FVec F S1x8x1024x64 .f32) (main_v14 : FVec F S1x8x64x64 .f32) (main_indices : IVec S1x8x1024x4 32) (main_v17 : IVec S1x1x1 32) (main_v19 : IVec S1x8x1 32) (main_v62 : IVec S1x8x1024x64 1) (main_v64 : IVec S1x8x1024 32) (main_v69 : IVec S1x1x1 32) (main_v74 : IVec S1x8x1 32) (main_v75 : IVec S1x8x1024 32) : IVec S1x8x1024x64 1 :=
  let main_v76 : IVec S1x8x1024 1 := cmpi .slt main_v64 main_v75
  let main_c_16 : IVec S_ 32 := constantI S_ 32 64#32
  let main_v77 : IVec S1x8x1024 32 := broadcastInDim S1x8x1024 ![] bcast_S_S1x8x1024 main_c_16
  let main_v78 : IVec S1x8x1024 32 := addi main_v64 main_v77
  let main_v79 : IVec S1x8x1024 32 := select main_v76 main_v78 main_v64
  let main_v80 : IVec S1x8x1024 32 := broadcastInDim S1x8x1024 ![0, 1, 2] bcast_S1x1x1_S1x8x1024_0_1_2 main_v69
  let main_v81 : IVec S1x8x1024 32 := broadcastInDim S1x8x1024 ![0, 1, 2] bcast_S1x8x1_S1x8x1024_0_1_2 main_v74
  let main_v82 : IVec S1x8x1024x1 32 := broadcastInDim S1x8x1024x1 ![0, 1, 2] bcast_S1x8x1024_S1x8x1024x1_0_1_2 main_v80
  let main_v83 : IVec S1x8x1024x1 32 := broadcastInDim S1x8x1024x1 ![0, 1, 2] bcast_S1x8x1024_S1x8x1024x1_0_1_2 main_v81
  let main_v84 : IVec S1x8x1024x1 32 := broadcastInDim S1x8x1024x1 ![0, 1, 2] bcast_S1x8x1024_S1x8x1024x1_0_1_2 main_v79
  let main_v85 : IVec S1x8x1024x3 32 := concatenate S1x8x1024x3 3 [⟨S1x8x1024x1, main_v82⟩, ⟨S1x8x1024x1, main_v83⟩, ⟨S1x8x1024x1, main_v84⟩] concatenates_S1x8x1024x1_S1x8x1024x1_S1x8x1024x1_S1x8x1024x3_d3
  let main_v86 : FVec F S1x8x1024x64 .f32 := (fun x i => Host.gather gather_S1x8x64x64_S1x8x1024x3_S1x8x1024x64_3_012_n_n_012_3_11164 x i) main_v14 main_v85
  let main_v87 : FVec F S1x8x1024 .f32 := (fun l r => Host.dotGeneral dot_S1x8x1024x64_S1x8x1024x64_S1x8x1024_3_3_n_n_012_012 none l r) main_v86 main_arg2
  let main_v88 : FVec F S1x8x1024x1 .f32 := broadcastInDim S1x8x1024x1 ![0, 1, 2] bcast_S1x8x1024_S1x8x1024x1_0_1_2 main_v87
  let main_cst_17 : FVec F S_ .f32 := constant S_ .f32 0x358637BD#32
  let main_v89 : FVec F S1x8x1024x1 .f32 := broadcastInDim S1x8x1024x1 ![] bcast_S_S1x8x1024x1 main_cst_17
  let main_v90 : FVec F S1x8x1024x1 .f32 := addf main_v88 main_v89
  let main_cst_18 : FVec F S_ .f32 := constant S_ .f32 0x00000000#32
  let main_v91 : FVec F S1x8x1024x1 .f32 := broadcastInDim S1x8x1024x1 ![] bcast_S_S1x8x1024x1 main_cst_18
  let main_v92 : IVec S1x8x1024x1 1 := cmpf .une main_v90 main_v91
  let main_v93 : IVec S1x8x1024x64 1 := broadcastInDim S1x8x1024x64 ![0, 1, 2, 3] bcast_S1x8x1024x1_S1x8x1024x64_0_1_2_3 main_v92
  let main_v94 : IVec S1x8x1024x64 1 := andi main_v62 main_v93
  let main_v95 : IVec S1x8x1024x1 32 := (extractStridedSlice S1x8x1024x1 ![0, 0, 0, 2] · slices_S1x8x1024x4_S1x8x1024x1_0_0_0_2) main_indices
  let main_v96 : IVec S1x8x1024 32 := shapeCast S1x8x1024 main_v95 shapeCasts_S1x8x1024x1_S1x8x1024
  fn_part5 (F := F) main_arg2 main_v14 main_indices main_v17 main_v19 main_v94 main_v96

def fn_part3 {F : FTy → Type} [FloatOps F] (main_arg2 : FVec F S1x8x1024x64 .f32) (main_v14 : FVec F S1x8x64x64 .f32) (main_indices : IVec S1x8x1024x4 32) (main_v17 : IVec S1x1x1 32) (main_v19 : IVec S1x8x1 32) (main_v30 : IVec S1x8x1024x64 1) (main_v56 : FVec F S1x8x1024x1 .f32) (main_v57 : FVec F S1x8x1024x1 .f32) : IVec S1x8x1024x64 1 :=
  let main_v58 : FVec F S1x8x1024x1 .f32 := addf main_v56 main_v57
  let main_cst_10 : FVec F S_ .f32 := constant S_ .f32 0x00000000#32
  let main_v59 : FVec F S1x8x1024x1 .f32 := broadcastInDim S1x8x1024x1 ![] bcast_S_S1x8x1024x1 main_cst_10
  let main_v60 : IVec S1x8x1024x1 1 := cmpf .une main_v58 main_v59
  let main_v61 : IVec S1x8x1024x64 1 := broadcastInDim S1x8x1024x64 ![0, 1, 2, 3] bcast_S1x8x1024x1_S1x8x1024x64_0_1_2_3 main_v60
  let main_v62 : IVec S1x8x1024x64 1 := andi main_v30 main_v61
  let main_v63 : IVec S1x8x1024x1 32 := (extractStridedSlice S1x8x1024x1 ![0, 0, 0, 1] · slices_S1x8x1024x4_S1x8x1024x1_0_0_0_1) main_indices
  let main_v64 : IVec S1x8x1024 32 := shapeCast S1x8x1024 main_v63 shapeCasts_S1x8x1024x1_S1x8x1024
  let main_c_11 : IVec S_ 32 := constantI S_ 32 0#32
  let main_v65 : IVec S1x1x1 32 := broadcastInDim S1x1x1 ![] bcast_S_S1x1x1 main_c_11
  let main_v66 : IVec S1x1x1 1 := cmpi .slt main_v17 main_v65
  let main_c_12 : IVec S_ 32 := constantI S_ 32 1#32
  let main_v67 : IVec S1x1x1 32 := broadcastInDim S1x1x1 ![] bcast_S_S1x1x1 main_c_12
  let main_v68 : IVec S1x1x1 32 := addi main_v17 main_v67
  let main_v69 : IVec S1x1x1 32 := select main_v66 main_v68 main_v17
  let main_c_13 : IVec S_ 32 := constantI S_ 32 0#32
  let main_v70 : IVec S1x8x1 32 := broadcastInDim S1x8x1 ![] bcast_S_S1x8x1 main_c_13
  let main_v71 : IVec S1x8x1 1 := cmpi .slt main_v19 main_v70
  let main_c_14 : IVec S_ 32 := constantI S_ 32 8#32
  let main_v72 : IVec S1x8x1 32 := broadcastInDim S1x8x1 ![] bcast_S_S1x8x1 main_c_14
  let main_v73 : IVec S1x8x1 32 := addi main_v19 main_v72
  let main_v74 : IVec S1x8x1 32 := select main_v71 main_v73 main_v19
  let main_c_15 : IVec S_ 32 := constantI S_ 32 0#32
  let main_v75 : IVec S1x8x1024 32 := broadcastInDim S1x8x1024 ![] bcast_S_S1x8x1024 main_c_15
  fn_part4 (F := F) main_arg2 main_v14 main_indices main_v17 main_v19 main_v62 main_v64 main_v69 main_v74 main_v75

def fn_part2 {F : FTy → Type} [FloatOps F] (main_arg2 : FVec F S1x8x1024x64 .f32) (main_v14 : FVec F S1x8x64x64 .f32) (main_indices : IVec S1x8x1024x4 32) (main_v17 : IVec S1x1x1 32) (main_v19 : IVec S1x8x1 32) (main_v30 : IVec S1x8x1024x64 1) (main_v32 : IVec S1x8x1024 32) (main_v37 : IVec S1x1x1 32) (main_c_5 : IVec S_ 32) : IVec S1x8x1024x64 1 :=
  let main_v38 : IVec S1x8x1 32 := broadcastInDim S1x8x1 ![] bcast_S_S1x8x1 main_c_5
  let main_v39 : IVec S1x8x1 1 := cmpi .slt main_v19 main_v38
  let main_c_6 : IVec S_ 32 := constantI S_ 32 8#32
  let main_v40 : IVec S1x8x1 32 := broadcastInDim S1x8x1 ![] bcast_S_S1x8x1 main_c_6
  let main_v41 : IVec S1x8x1 32 := addi main_v19 main_v40
  let main_v42 : IVec S1x8x1 32 := select main_v39 main_v41 main_v19
  let main_c_7 : IVec S_ 32 := constantI S_ 32 0#32
  let main_v43 : IVec S1x8x1024 32 := broadcastInDim S1x8x1024 ![] bcast_S_S1x8x1024 main_c_7
  let main_v44 : IVec S1x8x1024 1 := cmpi .slt main_v32 main_v43
  let main_c_8 : IVec S_ 32 := constantI S_ 32 64#32
  let main_v45 : IVec S1x8x1024 32 := broadcastInDim S1x8x1024 ![] bcast_S_S1x8x1024 main_c_8
  let main_v46 : IVec S1x8x1024 32 := addi main_v32 main_v45
  let main_v47 : IVec S1x8x1024 32 := select main_v44 main_v46 main_v32
  let main_v48 : IVec S1x8x1024 32 := broadcastInDim S1x8x1024 ![0, 1, 2] bcast_S1x1x1_S1x8x1024_0_1_2 main_v37
  let main_v49 : IVec S1x8x1024 32 := broadcastInDim S1x8x1024 ![0, 1, 2] bcast_S1x8x1_S1x8x1024_0_1_2 main_v42
  let main_v50 : IVec S1x8x1024x1 32 := broadcastInDim S1x8x1024x1 ![0, 1, 2] bcast_S1x8x1024_S1x8x1024x1_0_1_2 main_v48
  let main_v51 : IVec S1x8x1024x1 32 := broadcastInDim S1x8x1024x1 ![0, 1, 2] bcast_S1x8x1024_S1x8x1024x1_0_1_2 main_v49
  let main_v52 : IVec S1x8x1024x1 32 := broadcastInDim S1x8x1024x1 ![0, 1, 2] bcast_S1x8x1024_S1x8x1024x1_0_1_2 main_v47
  let main_v53 : IVec S1x8x1024x3 32 := concatenate S1x8x1024x3 3 [⟨S1x8x1024x1, main_v50⟩, ⟨S1x8x1024x1, main_v51⟩, ⟨S1x8x1024x1, main_v52⟩] concatenates_S1x8x1024x1_S1x8x1024x1_S1x8x1024x1_S1x8x1024x3_d3
  let main_v54 : FVec F S1x8x1024x64 .f32 := (fun x i => Host.gather gather_S1x8x64x64_S1x8x1024x3_S1x8x1024x64_3_012_n_n_012_3_11164 x i) main_v14 main_v53
  let main_v55 : FVec F S1x8x1024 .f32 := (fun l r => Host.dotGeneral dot_S1x8x1024x64_S1x8x1024x64_S1x8x1024_3_3_n_n_012_012 none l r) main_v54 main_arg2
  let main_v56 : FVec F S1x8x1024x1 .f32 := broadcastInDim S1x8x1024x1 ![0, 1, 2] bcast_S1x8x1024_S1x8x1024x1_0_1_2 main_v55
  let main_cst_9 : FVec F S_ .f32 := constant S_ .f32 0x358637BD#32
  let main_v57 : FVec F S1x8x1024x1 .f32 := broadcastInDim S1x8x1024x1 ![] bcast_S_S1x8x1024x1 main_cst_9
  fn_part3 (F := F) main_arg2 main_v14 main_indices main_v17 main_v19 main_v30 main_v56 main_v57

def fn_part1 {F : FTy → Type} [FloatOps F] (main_arg0 : FVec F S1x8x1024x64 .f32) (main_arg1 : FVec F S1x8x1024x64 .f32) (main_arg2 : FVec F S1x8x1024x64 .f32) (main_v14 : FVec F S1x8x64x64 .f32) (main_indices : IVec S1x8x1024x4 32) (main_v17 : IVec S1x1x1 32) (main_v19 : IVec S1x8x1 32) : IVec S1x8x1024x64 1 :=
  let main_v20 : FVec F S1x8x1024x64 .f32 := Host.absf main_arg0
  let main_cst_0 : FVec F S_ .f32 := constant S_ .f32 0x7F800000#32
  let main_v21 : FVec F S1x8x1024x64 .f32 := broadcastInDim S1x8x1024x64 ![] bcast_S_S1x8x1024x64 main_cst_0
  let main_v22 : IVec S1x8x1024x64 1 := cmpf .olt main_v20 main_v21
  let main_v23 : FVec F S1x8x1024x64 .f32 := Host.absf main_arg1
  let main_cst_1 : FVec F S_ .f32 := constant S_ .f32 0x7F800000#32
  let main_v24 : FVec F S1x8x1024x64 .f32 := broadcastInDim S1x8x1024x64 ![] bcast_S_S1x8x1024x64 main_cst_1
  let main_v25 : IVec S1x8x1024x64 1 := cmpf .olt main_v23 main_v24
  let main_v26 : IVec S1x8x1024x64 1 := andi main_v22 main_v25
  let main_v27 : FVec F S1x8x1024x64 .f32 := Host.absf main_arg2
  let main_cst_2 : FVec F S_ .f32 := constant S_ .f32 0x7F800000#32
  let main_v28 : FVec F S1x8x1024x64 .f32 := broadcastInDim S1x8x1024x64 ![] bcast_S_S1x8x1024x64 main_cst_2
  let main_v29 : IVec S1x8x1024x64 1 := cmpf .olt main_v27 main_v28
  let main_v30 : IVec S1x8x1024x64 1 := andi main_v26 main_v29
  let main_v31 : IVec S1x8x1024x1 32 := (extractStridedSlice S1x8x1024x1 ![0, 0, 0, 0] · slices_S1x8x1024x4_S1x8x1024x1_0_0_0_0) main_indices
  let main_v32 : IVec S1x8x1024 32 := shapeCast S1x8x1024 main_v31 shapeCasts_S1x8x1024x1_S1x8x1024
  let main_c_3 : IVec S_ 32 := constantI S_ 32 0#32
  let main_v33 : IVec S1x1x1 32 := broadcastInDim S1x1x1 ![] bcast_S_S1x1x1 main_c_3
  let main_v34 : IVec S1x1x1 1 := cmpi .slt main_v17 main_v33
  let main_c_4 : IVec S_ 32 := constantI S_ 32 1#32
  let main_v35 : IVec S1x1x1 32 := broadcastInDim S1x1x1 ![] bcast_S_S1x1x1 main_c_4
  let main_v36 : IVec S1x1x1 32 := addi main_v17 main_v35
  let main_v37 : IVec S1x1x1 32 := select main_v34 main_v36 main_v17
  let main_c_5 : IVec S_ 32 := constantI S_ 32 0#32
  fn_part2 (F := F) main_arg2 main_v14 main_indices main_v17 main_v19 main_v30 main_v32 main_v37 main_c_5

def fn {F : FTy → Type} [FloatOps F] (main_arg0 : FVec F S1x8x1024x64 .f32) (main_arg1 : FVec F S1x8x1024x64 .f32) (main_arg2 : FVec F S1x8x1024x64 .f32) : IVec S1x8x1024x64 1 :=
  let main_v0 : FVec F S1x8x1024x64 .f32 := Host.absf main_arg0
  let main_v1 : IVec S1x8x1024 32 := fn_argmax (F := F) main_v0
  let main_v2 : IVec S8 32 := iotaInDim S8 32 0
  let main_v3 : IVec S1x8 32 := shapeCast S1x8 main_v2 shapeCasts_S8_S1x8
  let main_c : IVec S_ 32 := constantI S_ 32 64#32
  let main_v4 : IVec S1x8 32 := broadcastInDim S1x8 ![] bcast_S_S1x8 main_c
  let main_v5 : IVec S1x8 32 := muli main_v3 main_v4
  let main_v6 : IVec S1x8x1 32 := broadcastInDim S1x8x1 ![0, 1] bcast_S1x8_S1x8x1_0_1 main_v5
  let main_v7 : IVec S1x8x1024 32 := broadcastInDim S1x8x1024 ![0, 1, 2] bcast_S1x8x1_S1x8x1024_0_1_2 main_v6
  let main_v8 : IVec S1x8x1024 32 := addi main_v1 main_v7
  let main_v9 : IVec S8192 32 := shapeCast S8192 main_v8 shapeCasts_S1x8x1024_S8192
  let main_v10 : FVec F S8192x64 .f32 := shapeCast S8192x64 main_arg0 shapeCasts_S1x8x1024x64_S8192x64
  let main_cst : FVec F S_ .f32 := constant S_ .f32 0x00000000#32
  let main_v11 : FVec F S512x64 .f32 := broadcastInDim S512x64 ![] bcast_S_S512x64 main_cst
  let main_v12 : IVec S8192x1 32 := broadcastInDim S8192x1 ![0] bcast_S8192_S8192x1_0 main_v9
  let main_v13 : FVec F S512x64 .f32 := (fun x i u => Host.scatterAdd scatter_S512x64_S8192x1_S8192x64_1_0_0_1 x i u) main_v11 main_v12 main_v10
  let main_v14 : FVec F S1x8x64x64 .f32 := shapeCast S1x8x64x64 main_v13 shapeCasts_S512x64_S1x8x64x64
  let main_v15 : FVec F S1x8x1024x64 .f32 := Host.absf main_arg2
  let main_values : FVec F S1x8x1024x4 .f32 := (fun x => (Host.topK S1x8x1024x4 3 (FloatOps.cmpfTotal .gt) x sliceFits_S1x8x1024x64_S1x8x1024x4).1) main_v15
  let main_indices : IVec S1x8x1024x4 32 := (fun x => (Host.topK S1x8x1024x4 3 (FloatOps.cmpfTotal .gt) x sliceFits_S1x8x1024x64_S1x8x1024x4).2) main_v15
  let main_v16 : IVec S1 32 := iotaInDim S1 32 0
  let main_v17 : IVec S1x1x1 32 := broadcastInDim S1x1x1 ![0] bcast_S1_S1x1x1_0 main_v16
  let main_v18 : IVec S8 32 := iotaInDim S8 32 0
  let main_v19 : IVec S1x8x1 32 := broadcastInDim S1x8x1 ![1] bcast_S8_S1x8x1_1 main_v18
  fn_part1 (F := F) main_arg0 main_arg1 main_arg2 main_v14 main_indices main_v17 main_v19
-- ==== Kernel.lean ====
abbrev S1x8x1024x64 : Shape := ⟨4, ![1, 8, 1024, 64]⟩
abbrev S1x1x1024x64 : Shape := ⟨4, ![1, 1, 1024, 64]⟩
abbrev S1024x64 : Shape := ⟨2, ![1024, 64]⟩
abbrev S1024 : Shape := ⟨1, ![1024]⟩
abbrev S1024x1 : Shape := ⟨2, ![1024, 1]⟩
abbrev S64x64 : Shape := ⟨2, ![64, 64]⟩
abbrev S1024x192 : Shape := ⟨2, ![1024, 192]⟩
abbrev S1024x1024 : Shape := ⟨2, ![1024, 1024]⟩
abbrev S1024x128 : Shape := ⟨2, ![1024, 128]⟩

abbrev nBuf : Space → Nat
  | .hbm => 4
  | .vmem => 4
  | .smem => 0
  | _ => 0

abbrev bufTy : (tb : Table) → Fin (tcTables nBuf tb) → BufTy
  | .hbm, ⟨0, _⟩ => ⟨S1x8x1024x64, .f32⟩
  | .hbm, ⟨1, _⟩ => ⟨S1x8x1024x64, .f32⟩
  | .hbm, ⟨2, _⟩ => ⟨S1x8x1024x64, .f32⟩
  | .hbm, ⟨3, _⟩ => ⟨S1x8x1024x64, .f32⟩
  | .local _ .vmem, ⟨0, _⟩ => ⟨S1x8x1024x64, .f32⟩
  | .local _ .vmem, ⟨1, _⟩ => ⟨S1x8x1024x64, .f32⟩
  | .local _ .vmem, ⟨2, _⟩ => ⟨S1x8x1024x64, .f32⟩
  | .local _ .vmem, ⟨3, _⟩ => ⟨S1x8x1024x64, .f32⟩
  | _, _ => ⟨S1x8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1x8x1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8x1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8x1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8x1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x8x1024x64 : Shape := ⟨4, ![1, 8, 1024, 64]⟩
abbrev S_ : Shape := ⟨0, ![]⟩
abbrev S1x8x1024 : Shape := ⟨3, ![1, 8, 1024]⟩
abbrev S8 : Shape := ⟨1, ![8]⟩
abbrev S1x8 : Shape := ⟨2, ![1, 8]⟩
abbrev S1x8x1 : Shape := ⟨3, ![1, 8, 1]⟩
abbrev S8192 : Shape := ⟨1, ![8192]⟩
abbrev S1x8x1024x64x1 : Shape := ⟨5, ![1, 8, 1024, 64, 1]⟩
abbrev S1x8x1024x1x64 : Shape := ⟨5, ![1, 8, 1024, 1, 64]⟩
abbrev S1x8x1024x64x64 : Shape := ⟨5, ![1, 8, 1024, 64, 64]⟩
abbrev S8192x64x64 : Shape := ⟨3, ![8192, 64, 64]⟩
abbrev S512x64x64 : Shape := ⟨3, ![512, 64, 64]⟩
abbrev S8192x1 : Shape := ⟨2, ![8192, 1]⟩
abbrev S1x8x64x64x64 : Shape := ⟨5, ![1, 8, 64, 64, 64]⟩
abbrev S8192x64 : Shape := ⟨2, ![8192, 64]⟩
abbrev S512x64 : Shape := ⟨2, ![512, 64]⟩
abbrev S1x8x64x64 : Shape := ⟨4, ![1, 8, 64, 64]⟩
abbrev S1x8x1024x4 : Shape := ⟨4, ![1, 8, 1024, 4]⟩
abbrev S1x8x1024x1 : Shape := ⟨4, ![1, 8, 1024, 1]⟩
abbrev S1 : Shape := ⟨1, ![1]⟩
abbrev S1x1x1 : Shape := ⟨3, ![1, 1, 1]⟩
abbrev S1x8x1024x3 : Shape := ⟨4, ![1, 8, 1024, 3]⟩

abbrev nBuf : Space → Nat
  | .hbm => 346
  | .vmem => 0
  | .smem => 0
  | _ => 0

abbrev hbmTy0_0 (i : Nat) : BufTy := match i % 128 with
  | 0 => ⟨S1x8x1024x64, .f32⟩
  | 1 => ⟨S1x8x1024x64, .f32⟩
  | 2 => ⟨S1x8x1024x64, .f32⟩
  | 3 => ⟨S1x8x1024x64, .f32⟩
  | 4 => ⟨S1x8x1024x64, .i32⟩
  | 5 => ⟨S_, .f32⟩
  | 6 => ⟨S_, .i32⟩
  | 7 => ⟨S1x8x1024, .f32⟩
  | 8 => ⟨S1x8x1024, .i32⟩
  | 9 => ⟨S8, .i32⟩
  | 10 => ⟨S1x8, .i32⟩
  | 11 => ⟨S_, .i32⟩
  | 12 => ⟨S1x8, .i32⟩
  | 13 => ⟨S1x8, .i32⟩
  | 14 => ⟨S1x8x1, .i32⟩
  | 15 => ⟨S1x8x1024, .i32⟩
  | 16 => ⟨S1x8x1024, .i32⟩
  | 17 => ⟨S8192, .i32⟩
  | 18 => ⟨S1x8x1024x64x1, .f32⟩
  | 19 => ⟨S1x8x1024x1x64, .f32⟩
  | 20 => ⟨S1x8x1024x64x64, .f32⟩
  | 21 => ⟨S1x8x1024x64x64, .f32⟩
  | 22 => ⟨S1x8x1024x64x64, .f32⟩
  | 23 => ⟨S8192x64x64, .f32⟩
  | 24 => ⟨S_, .f32⟩
  | 25 => ⟨S512x64x64, .f32⟩
  | 26 => ⟨S8192x1, .i32⟩
  | 27 => ⟨S512x64x64, .f32⟩
  | 28 => ⟨S1x8x64x64x64, .f32⟩
  | 29 => ⟨S8192x64, .f32⟩
  | 30 => ⟨S_, .f32⟩
  | 31 => ⟨S512x64, .f32⟩
  | 32 => ⟨S8192x1, .i32⟩
  | 33 => ⟨S512x64, .f32⟩
  | 34 => ⟨S1x8x64x64, .f32⟩
  | 35 => ⟨S1x8x1024x64, .f32⟩
  | 36 => ⟨S1x8x1024x4, .f32⟩
  | 37 => ⟨S1x8x1024x4, .i32⟩
  | 38 => ⟨S_, .f32⟩
  | 39 => ⟨S1x8x1024, .f32⟩
  | 40 => ⟨S_, .f32⟩
  | 41 => ⟨S1x8x1024, .f32⟩
  | 42 => ⟨S1x8x1024, .f32⟩
  | 43 => ⟨S1x8x1024x1, .f32⟩
  | 44 => ⟨S1x8x1024x4, .f32⟩
  | 45 => ⟨S1x8x1024x4, .f32⟩
  | 46 => ⟨S1x8x1024x4, .f32⟩
  | 47 => ⟨S_, .f32⟩
  | 48 => ⟨S1x8x1024, .f32⟩
  | 49 => ⟨S1x8x1024x1, .f32⟩
  | 50 => ⟨S1x8x1024x4, .f32⟩
  | 51 => ⟨S1x8x1024x4, .f32⟩
  | 52 => ⟨S_, .f32⟩
  | 53 => ⟨S1x8x1024x64, .f32⟩
  | 54 => ⟨S1, .i32⟩
  | 55 => ⟨S1x1x1, .i32⟩
  | 56 => ⟨S8, .i32⟩
  | 57 => ⟨S1x8x1, .i32⟩
  | 58 => ⟨S1x8x1024x1, .i32⟩
  | 59 => ⟨S1x8x1024, .i32⟩
  | 60 => ⟨S_, .i32⟩
  | 61 => ⟨S1x1x1, .i32⟩
  | 62 => ⟨S1x1x1, .i1⟩
  | 63 => ⟨S_, .i32⟩
  | 64 => ⟨S1x1x1, .i32⟩
  | 65 => ⟨S1x1x1, .i32⟩
  | 66 => ⟨S1x1x1, .i32⟩
  | 67 => ⟨S_, .i32⟩
  | 68 => ⟨S1x8x1, .i32⟩
  | 69 => ⟨S1x8x1, .i1⟩
  | 70 => ⟨S_, .i32⟩
  | 71 => ⟨S1x8x1, .i32⟩
  | 72 => ⟨S1x8x1, .i32⟩
  | 73 => ⟨S1x8x1, .i32⟩
  | 74 => ⟨S_, .i32⟩
  | 75 => ⟨S1x8x1024, .i32⟩
  | 76 => ⟨S1x8x1024, .i1⟩
  | 77 => ⟨S_, .i32⟩
  | 78 => ⟨S1x8x1024, .i32⟩
  | 79 => ⟨S1x8x1024, .i32⟩
  | 80 => ⟨S1x8x1024, .i32⟩
  | 81 => ⟨S1x8x1024, .i32⟩
  | 82 => ⟨S1x8x1024, .i32⟩
  | 83 => ⟨S1x8x1024x1, .i32⟩
  | 84 => ⟨S1x8x1024x1, .i32⟩
  | 85 => ⟨S1x8x1024x1, .i32⟩
  | 86 => ⟨S1x8x1024x3, .i32⟩
  | 87 => ⟨S1x8x1024x64x64, .f32⟩
  | 88 => ⟨S_, .i32⟩
  | 89 => ⟨S1x1x1, .i32⟩
  | 90 => ⟨S1x1x1, .i1⟩
  | 91 => ⟨S_, .i32⟩
  | 92 => ⟨S1x1x1, .i32⟩
  | 93 => ⟨S1x1x1, .i32⟩
  | 94 => ⟨S1x1x1, .i32⟩
  | 95 => ⟨S_, .i32⟩
  | 96 => ⟨S1x8x1, .i32⟩
  | 97 => ⟨S1x8x1, .i1⟩
  | 98 => ⟨S_, .i32⟩
  | 99 => ⟨S1x8x1, .i32⟩
  | 100 => ⟨S1x8x1, .i32⟩
  | 101 => ⟨S1x8x1, .i32⟩
  | 102 => ⟨S_, .i32⟩
  | 103 => ⟨S1x8x1024, .i32⟩
  | 104 => ⟨S1x8x1024, .i1⟩
  | 105 => ⟨S_, .i32⟩
  | 106 => ⟨S1x8x1024, .i32⟩
  | 107 => ⟨S1x8x1024, .i32⟩
  | 108 => ⟨S1x8x1024, .i32⟩
  | 109 => ⟨S1x8x1024, .i32⟩
  | 110 => ⟨S1x8x1024, .i32⟩
  | 111 => ⟨S1x8x1024x1, .i32⟩
  | 112 => ⟨S1x8x1024x1, .i32⟩
  | 113 => ⟨S1x8x1024x1, .i32⟩
  | 114 => ⟨S1x8x1024x3, .i32⟩
  | 115 => ⟨S1x8x1024x64, .f32⟩
  | 116 => ⟨S1x8x1024x64, .f32⟩
  | 117 => ⟨S1x8x1024, .f32⟩
  | 118 => ⟨S1x8x1024x1, .f32⟩
  | 119 => ⟨S_, .f32⟩
  | 120 => ⟨S1x8x1024x1, .f32⟩
  | 121 => ⟨S1x8x1024x1, .f32⟩
  | 122 => ⟨S1x8x1024x64, .f32⟩
  | 123 => ⟨S1x8x1024x64, .f32⟩
  | 124 => ⟨S1x8x1024x1, .f32⟩
  | 125 => ⟨S1x8x1024, .f32⟩
  | 126 => ⟨S1x8x1024x1, .f32⟩
  | 127 => ⟨S1x8x1024x64, .f32⟩
  | _ => ⟨S1x8x1024x64, .f32⟩

abbrev hbmTy0_1 (i : Nat) : BufTy := match i % 128 with
  | 0 => ⟨S1x8x1024x64, .f32⟩
  | 1 => ⟨S1x8x1024x64, .f32⟩
  | 2 => ⟨S1x8x1024x1, .i32⟩
  | 3 => ⟨S1x8x1024, .i32⟩
  | 4 => ⟨S_, .i32⟩
  | 5 => ⟨S1x1x1, .i32⟩
  | 6 => ⟨S1x1x1, .i1⟩
  | 7 => ⟨S_, .i32⟩
  | 8 => ⟨S1x1x1, .i32⟩
  | 9 => ⟨S1x1x1, .i32⟩
  | 10 => ⟨S1x1x1, .i32⟩
  | 11 => ⟨S_, .i32⟩
  | 12 => ⟨S1x8x1, .i32⟩
  | 13 => ⟨S1x8x1, .i1⟩
  | 14 => ⟨S_, .i32⟩
  | 15 => ⟨S1x8x1, .i32⟩
  | 16 => ⟨S1x8x1, .i32⟩
  | 17 => ⟨S1x8x1, .i32⟩
  | 18 => ⟨S_, .i32⟩
  | 19 => ⟨S1x8x1024, .i32⟩
  | 20 => ⟨S1x8x1024, .i1⟩
  | 21 => ⟨S_, .i32⟩
  | 22 => ⟨S1x8x1024, .i32⟩
  | 23 => ⟨S1x8x1024, .i32⟩
  | 24 => ⟨S1x8x1024, .i32⟩
  | 25 => ⟨S1x8x1024, .i32⟩
  | 26 => ⟨S1x8x1024, .i32⟩
  | 27 => ⟨S1x8x1024x1, .i32⟩
  | 28 => ⟨S1x8x1024x1, .i32⟩
  | 29 => ⟨S1x8x1024x1, .i32⟩
  | 30 => ⟨S1x8x1024x3, .i32⟩
  | 31 => ⟨S1x8x1024x64x64, .f32⟩
  | 32 => ⟨S_, .i32⟩
  | 33 => ⟨S1x1x1, .i32⟩
  | 34 => ⟨S1x1x1, .i1⟩
  | 35 => ⟨S_, .i32⟩
  | 36 => ⟨S1x1x1, .i32⟩
  | 37 => ⟨S1x1x1, .i32⟩
  | 38 => ⟨S1x1x1, .i32⟩
  | 39 => ⟨S_, .i32⟩
  | 40 => ⟨S1x8x1, .i32⟩
  | 41 => ⟨S1x8x1, .i1⟩
  | 42 => ⟨S_, .i32⟩
  | 43 => ⟨S1x8x1, .i32⟩
  | 44 => ⟨S1x8x1, .i32⟩
  | 45 => ⟨S1x8x1, .i32⟩
  | 46 => ⟨S_, .i32⟩
  | 47 => ⟨S1x8x1024, .i32⟩
  | 48 => ⟨S1x8x1024, .i1⟩
  | 49 => ⟨S_, .i32⟩
  | 50 => ⟨S1x8x1024, .i32⟩
  | 51 => ⟨S1x8x1024, .i32⟩
  | 52 => ⟨S1x8x1024, .i32⟩
  | 53 => ⟨S1x8x1024, .i32⟩
  | 54 => ⟨S1x8x1024, .i32⟩
  | 55 => ⟨S1x8x1024x1, .i32⟩
  | 56 => ⟨S1x8x1024x1, .i32⟩
  | 57 => ⟨S1x8x1024x1, .i32⟩
  | 58 => ⟨S1x8x1024x3, .i32⟩
  | 59 => ⟨S1x8x1024x64, .f32⟩
  | 60 => ⟨S1x8x1024x64, .f32⟩
  | 61 => ⟨S1x8x1024, .f32⟩
  | 62 => ⟨S1x8x1024x1, .f32⟩
  | 63 => ⟨S_, .f32⟩
  | 64 => ⟨S1x8x1024x1, .f32⟩
  | 65 => ⟨S1x8x1024x1, .f32⟩
  | 66 => ⟨S1x8x1024x64, .f32⟩
  | 67 => ⟨S1x8x1024x64, .f32⟩
  | 68 => ⟨S1x8x1024x1, .f32⟩
  | 69 => ⟨S1x8x1024, .f32⟩
  | 70 => ⟨S1x8x1024x1, .f32⟩
  | 71 => ⟨S1x8x1024x64, .f32⟩
  | 72 => ⟨S1x8x1024x64, .f32⟩
  | 73 => ⟨S1x8x1024x64, .f32⟩
  | 74 => ⟨S1x8x1024x1, .i32⟩
  | 75 => ⟨S1x8x1024, .i32⟩
  | 76 => ⟨S_, .i32⟩
  | 77 => ⟨S1x1x1, .i32⟩
  | 78 => ⟨S1x1x1, .i1⟩
  | 79 => ⟨S_, .i32⟩
  | 80 => ⟨S1x1x1, .i32⟩
  | 81 => ⟨S1x1x1, .i32⟩
  | 82 => ⟨S1x1x1, .i32⟩
  | 83 => ⟨S_, .i32⟩
  | 84 => ⟨S1x8x1, .i32⟩
  | 85 => ⟨S1x8x1, .i1⟩
  | 86 => ⟨S_, .i32⟩
  | 87 => ⟨S1x8x1, .i32⟩
  | 88 => ⟨S1x8x1, .i32⟩
  | 89 => ⟨S1x8x1, .i32⟩
  | 90 => ⟨S_, .i32⟩
  | 91 => ⟨S1x8x1024, .i32⟩
  | 92 => ⟨S1x8x1024, .i1⟩
  | 93 => ⟨S_, .i32⟩
  | 94 => ⟨S1x8x1024, .i32⟩
  | 95 => ⟨S1x8x1024, .i32⟩
  | 96 => ⟨S1x8x1024, .i32⟩
  | 97 => ⟨S1x8x1024, .i32⟩
  | 98 => ⟨S1x8x1024, .i32⟩
  | 99 => ⟨S1x8x1024x1, .i32⟩
  | 100 => ⟨S1x8x1024x1, .i32⟩
  | 101 => ⟨S1x8x1024x1, .i32⟩
  | 102 => ⟨S1x8x1024x3, .i32⟩
  | 103 => ⟨S1x8x1024x64x64, .f32⟩
  | 104 => ⟨S_, .i32⟩
  | 105 => ⟨S1x1x1, .i32⟩
  | 106 => ⟨S1x1x1, .i1⟩
  | 107 => ⟨S_, .i32⟩
  | 108 => ⟨S1x1x1, .i32⟩
  | 109 => ⟨S1x1x1, .i32⟩
  | 110 => ⟨S1x1x1, .i32⟩
  | 111 => ⟨S_, .i32⟩
  | 112 => ⟨S1x8x1, .i32⟩
  | 113 => ⟨S1x8x1, .i1⟩
  | 114 => ⟨S_, .i32⟩
  | 115 => ⟨S1x8x1, .i32⟩
  | 116 => ⟨S1x8x1, .i32⟩
  | 117 => ⟨S1x8x1, .i32⟩
  | 118 => ⟨S_, .i32⟩
  | 119 => ⟨S1x8x1024, .i32⟩
  | 120 => ⟨S1x8x1024, .i1⟩
  | 121 => ⟨S_, .i32⟩
  | 122 => ⟨S1x8x1024, .i32⟩
  | 123 => ⟨S1x8x1024, .i32⟩
  | 124 => ⟨S1x8x1024, .i32⟩
  | 125 => ⟨S1x8x1024, .i32⟩
  | 126 => ⟨S1x8x1024, .i32⟩
  | 127 => ⟨S1x8x1024x1, .i32⟩
  | _ => ⟨S1x8x1024x64, .f32⟩

abbrev hbmTy0_2 (i : Nat) : BufTy := match i % 128 with
  | 0 => ⟨S1x8x1024x1, .i32⟩
  | 1 => ⟨S1x8x1024x1, .i32⟩
  | 2 => ⟨S1x8x1024x3, .i32⟩
  | 3 => ⟨S1x8x1024x64, .f32⟩
  | 4 => ⟨S1x8x1024x64, .f32⟩
  | 5 => ⟨S1x8x1024, .f32⟩
  | 6 => ⟨S1x8x1024x1, .f32⟩
  | 7 => ⟨S_, .f32⟩
  | 8 => ⟨S1x8x1024x1, .f32⟩
  | 9 => ⟨S1x8x1024x1, .f32⟩
  | 10 => ⟨S1x8x1024x64, .f32⟩
  | 11 => ⟨S1x8x1024x64, .f32⟩
  | 12 => ⟨S1x8x1024x1, .f32⟩
  | 13 => ⟨S1x8x1024, .f32⟩
  | 14 => ⟨S1x8x1024x1, .f32⟩
  | 15 => ⟨S1x8x1024x64, .f32⟩
  | 16 => ⟨S1x8x1024x64, .f32⟩
  | 17 => ⟨S1x8x1024x64, .f32⟩
  | 18 => ⟨S1x8x1024x1, .i32⟩
  | 19 => ⟨S1x8x1024, .i32⟩
  | 20 => ⟨S_, .i32⟩
  | 21 => ⟨S1x1x1, .i32⟩
  | 22 => ⟨S1x1x1, .i1⟩
  | 23 => ⟨S_, .i32⟩
  | 24 => ⟨S1x1x1, .i32⟩
  | 25 => ⟨S1x1x1, .i32⟩
  | 26 => ⟨S1x1x1, .i32⟩
  | 27 => ⟨S_, .i32⟩
  | 28 => ⟨S1x8x1, .i32⟩
  | 29 => ⟨S1x8x1, .i1⟩
  | 30 => ⟨S_, .i32⟩
  | 31 => ⟨S1x8x1, .i32⟩
  | 32 => ⟨S1x8x1, .i32⟩
  | 33 => ⟨S1x8x1, .i32⟩
  | 34 => ⟨S_, .i32⟩
  | 35 => ⟨S1x8x1024, .i32⟩
  | 36 => ⟨S1x8x1024, .i1⟩
  | 37 => ⟨S_, .i32⟩
  | 38 => ⟨S1x8x1024, .i32⟩
  | 39 => ⟨S1x8x1024, .i32⟩
  | 40 => ⟨S1x8x1024, .i32⟩
  | 41 => ⟨S1x8x1024, .i32⟩
  | 42 => ⟨S1x8x1024, .i32⟩
  | 43 => ⟨S1x8x1024x1, .i32⟩
  | 44 => ⟨S1x8x1024x1, .i32⟩
  | 45 => ⟨S1x8x1024x1, .i32⟩
  | 46 => ⟨S1x8x1024x3, .i32⟩
  | 47 => ⟨S1x8x1024x64x64, .f32⟩
  | 48 => ⟨S_, .i32⟩
  | 49 => ⟨S1x1x1, .i32⟩
  | 50 => ⟨S1x1x1, .i1⟩
  | 51 => ⟨S_, .i32⟩
  | 52 => ⟨S1x1x1, .i32⟩
  | 53 => ⟨S1x1x1, .i32⟩
  | 54 => ⟨S1x1x1, .i32⟩
  | 55 => ⟨S_, .i32⟩
  | 56 => ⟨S1x8x1, .i32⟩
  | 57 => ⟨S1x8x1, .i1⟩
  | 58 => ⟨S_, .i32⟩
  | 59 => ⟨S1x8x1, .i32⟩
  | 60 => ⟨S1x8x1, .i32⟩
  | 61 => ⟨S1x8x1, .i32⟩
  | 62 => ⟨S_, .i32⟩
  | 63 => ⟨S1x8x1024, .i32⟩
  | 64 => ⟨S1x8x1024, .i1⟩
  | 65 => ⟨S_, .i32⟩
  | 66 => ⟨S1x8x1024, .i32⟩
  | 67 => ⟨S1x8x1024, .i32⟩
  | 68 => ⟨S1x8x1024, .i32⟩
  | 69 => ⟨S1x8x1024, .i32⟩
  | 70 => ⟨S1x8x1024, .i32⟩
  | 71 => ⟨S1x8x1024x1, .i32⟩
  | 72 => ⟨S1x8x1024x1, .i32⟩
  | 73 => ⟨S1x8x1024x1, .i32⟩
  | 74 => ⟨S1x8x1024x3, .i32⟩
  | 75 => ⟨S1x8x1024x64, .f32⟩
  | 76 => ⟨S1x8x1024x64, .f32⟩
  | 77 => ⟨S1x8x1024, .f32⟩
  | 78 => ⟨S1x8x1024x1, .f32⟩
  | 79 => ⟨S_, .f32⟩
  | 80 => ⟨S1x8x1024x1, .f32⟩
  | 81 => ⟨S1x8x1024x1, .f32⟩
  | 82 => ⟨S1x8x1024x64, .f32⟩
  | 83 => ⟨S1x8x1024x64, .f32⟩
  | 84 => ⟨S1x8x1024x1, .f32⟩
  | 85 => ⟨S1x8x1024, .f32⟩
  | 86 => ⟨S1x8x1024x1, .f32⟩
  | 87 => ⟨S1x8x1024x64, .f32⟩
  | 88 => ⟨S1x8x1024x64, .f32⟩
  | 89 => ⟨S1x8x1024x64, .f32⟩
  | _ => ⟨S1x8x1024x64, .f32⟩

abbrev hbmTy (i : Nat) : BufTy := match i / 128 with
  | 0 => hbmTy0_0 i
  | 1 => hbmTy0_1 i
  | 2 => hbmTy0_2 i
  | _ => ⟨S1x8x1024x64, .f32⟩

abbrev bufTy : (tb : Table) → Fin (tcTables nBuf tb) → BufTy
  | .hbm, ⟨i, _⟩ => hbmTy i
  | _, _ => ⟨S1x8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_values : Ref sig .tc := ⟨.hbm, 36, rfl⟩
abbrev main_indices : Ref sig .tc := ⟨.hbm, 37, rfl⟩
abbrev main_cst_1 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_5 : Ref sig .tc := ⟨.hbm, 60, rfl⟩
abbrev main_v44 : Ref sig .tc := ⟨.hbm, 61, rfl⟩
abbrev main_v45 : Ref sig .tc := ⟨.hbm, 62, rfl⟩
abbrev main_c_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_7 : Ref sig .tc := ⟨.hbm, 67, rfl⟩
abbrev main_v49 : Ref sig .tc := ⟨.hbm, 68, rfl⟩
abbrev main_v50 : Ref sig .tc := ⟨.hbm, 69, rfl⟩
abbrev main_c_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_11 : Ref sig .tc := ⟨.hbm, 88, rfl⟩
abbrev main_v66 : Ref sig .tc := ⟨.hbm, 89, rfl⟩
abbrev main_v67 : Ref sig .tc := ⟨.hbm, 90, rfl⟩
abbrev main_c_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_13 : Ref sig .tc := ⟨.hbm, 95, rfl⟩
abbrev main_v71 : Ref sig .tc := ⟨.hbm, 96, rfl⟩
abbrev main_v72 : Ref sig .tc := ⟨.hbm, 97, rfl⟩
abbrev main_c_14 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_15 : Ref sig .tc := ⟨.hbm, 102, rfl⟩
abbrev main_v76 : Ref sig .tc := ⟨.hbm, 103, rfl⟩
abbrev main_v77 : Ref sig .tc := ⟨.hbm, 104, rfl⟩
abbrev main_c_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_17 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_c_18 : Ref sig .tc := ⟨.hbm, 132, rfl⟩
abbrev main_v103 : Ref sig .tc := ⟨.hbm, 133, rfl⟩
abbrev main_v104 : Ref sig .tc := ⟨.hbm, 134, rfl⟩
abbrev main_c_19 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_c_20 : Ref sig .tc := ⟨.hbm, 139, rfl⟩
abbrev main_v108 : Ref sig .tc := ⟨.hbm, 140, rfl⟩
abbrev main_v109 : Ref sig .tc := ⟨.hbm, 141, rfl⟩
abbrev main_c_21 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_c_22 : Ref sig .tc := ⟨.hbm, 146, rfl⟩
abbrev main_v113 : Ref sig .tc := ⟨.hbm, 147, rfl⟩
abbrev main_v114 : Ref sig .tc := ⟨.hbm, 148, rfl⟩
abbrev main_c_23 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_c_24 : Ref sig .tc := ⟨.hbm, 160, rfl⟩
abbrev main_v125 : Ref sig .tc := ⟨.hbm, 161, rfl⟩
abbrev main_v126 : Ref sig .tc := ⟨.hbm, 162, rfl⟩
abbrev main_c_25 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_c_26 : Ref sig .tc := ⟨.hbm, 167, rfl⟩
abbrev main_v130 : Ref sig .tc := ⟨.hbm, 168, rfl⟩
abbrev main_v131 : Ref sig .tc := ⟨.hbm, 169, rfl⟩
abbrev main_c_27 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_c_28 : Ref sig .tc := ⟨.hbm, 174, rfl⟩
abbrev main_v135 : Ref sig .tc := ⟨.hbm, 175, rfl⟩
abbrev main_v136 : Ref sig .tc := ⟨.hbm, 176, rfl⟩
abbrev main_c_29 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_30 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_c_31 : Ref sig .tc := ⟨.hbm, 204, rfl⟩
abbrev main_v162 : Ref sig .tc := ⟨.hbm, 205, rfl⟩
abbrev main_v163 : Ref sig .tc := ⟨.hbm, 206, rfl⟩
abbrev main_c_32 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_c_33 : Ref sig .tc := ⟨.hbm, 211, rfl⟩
abbrev main_v167 : Ref sig .tc := ⟨.hbm, 212, rfl⟩
abbrev main_v168 : Ref sig .tc := ⟨.hbm, 213, rfl⟩
abbrev main_c_34 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_c_35 : Ref sig .tc := ⟨.hbm, 218, rfl⟩
abbrev main_v172 : Ref sig .tc := ⟨.hbm, 219, rfl⟩
abbrev main_v173 : Ref sig .tc := ⟨.hbm, 220, rfl⟩
abbrev main_c_36 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_c_37 : Ref sig .tc := ⟨.hbm, 232, rfl⟩
abbrev main_v184 : Ref sig .tc := ⟨.hbm, 233, rfl⟩
abbrev main_v185 : Ref sig .tc := ⟨.hbm, 234, rfl⟩
abbrev main_c_38 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_c_39 : Ref sig .tc := ⟨.hbm, 239, rfl⟩
abbrev main_v189 : Ref sig .tc := ⟨.hbm, 240, rfl⟩
abbrev main_v190 : Ref sig .tc := ⟨.hbm, 241, rfl⟩
abbrev main_c_40 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_c_41 : Ref sig .tc := ⟨.hbm, 246, rfl⟩
abbrev main_v194 : Ref sig .tc := ⟨.hbm, 247, rfl⟩
abbrev main_v195 : Ref sig .tc := ⟨.hbm, 248, rfl⟩
abbrev main_c_42 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_cst_43 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_c_44 : Ref sig .tc := ⟨.hbm, 276, rfl⟩
abbrev main_v221 : Ref sig .tc := ⟨.hbm, 277, rfl⟩
abbrev main_v222 : Ref sig .tc := ⟨.hbm, 278, rfl⟩
abbrev main_c_45 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_c_46 : Ref sig .tc := ⟨.hbm, 283, rfl⟩
abbrev main_v226 : Ref sig .tc := ⟨.hbm, 284, rfl⟩
abbrev main_v227 : Ref sig .tc := ⟨.hbm, 285, rfl⟩
abbrev main_c_47 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_c_48 : Ref sig .tc := ⟨.hbm, 290, rfl⟩
abbrev main_v231 : Ref sig .tc := ⟨.hbm, 291, rfl⟩
abbrev main_v232 : Ref sig .tc := ⟨.hbm, 292, rfl⟩
abbrev main_c_49 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_c_50 : Ref sig .tc := ⟨.hbm, 304, rfl⟩
abbrev main_v243 : Ref sig .tc := ⟨.hbm, 305, rfl⟩
abbrev main_v244 : Ref sig .tc := ⟨.hbm, 306, rfl⟩
abbrev main_c_51 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_c_52 : Ref sig .tc := ⟨.hbm, 311, rfl⟩
abbrev main_v248 : Ref sig .tc := ⟨.hbm, 312, rfl⟩
abbrev main_v249 : Ref sig .tc := ⟨.hbm, 313, rfl⟩
abbrev main_c_53 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_c_54 : Ref sig .tc := ⟨.hbm, 318, rfl⟩
abbrev main_v253 : Ref sig .tc := ⟨.hbm, 319, rfl⟩
abbrev main_v254 : Ref sig .tc := ⟨.hbm, 320, rfl⟩
abbrev main_c_55 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_cst_56 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩

abbrev nD : Nat := 1
abbrev τ : Topo := Topo.v7x

variable {F : FTy → Type} [FloatOps F]
-- ==== Proof.HeadDefs.lean ====
/-
  What the kernel computes for one head, as functions of the head's keys, values and queries. Each definition
  is a stretch of the kernel's own operations: the pick of a row's first greatest entry, the four rounds of
  picks, their exponentials, the normalisers, the weights of the gathered segments and the output.
-/
module

public import proofs.«01_k».proof.Proof.Gen.KernelIdeal

@[expose] public section

noncomputable section

namespace Cert.KernelIdeal.Head

open Idealize.ShloMosaic Cert.KernelIdeal Facts₀ Facts

variable {F : FTy → Type} [FloatOps F]

/-- The greatest entry of each row. -/
def rowMax (x : FVec F S1024x64 .f32) : FVec F S1024x1 .f32 :=
  shapeCast S1024x1 (multiReduction .maximumf [1] S1024 x 0xFF800000#32 reduces_S1024x64_S1024 (.inl rfl) rfl)
    shapeCasts_S1024_S1024x1

/-- The sum of each row. -/
def rowSum (x : FVec F S1024x64 .f32) : FVec F S1024x1 .f32 :=
  shapeCast S1024x1 (multiReduction .add [1] S1024 x 0x00000000#32 reduces_S1024x64_S1024 (.inl rfl) rfl)
    shapeCasts_S1024_S1024x1

/-- One where a row's entry equals the row's greatest. -/
def isMax (x : FVec F S1024x64 .f32) : IVec S1024x64 1 :=
  cmpf .oeq x (broadcastTo S1024x64 (rowMax x) broadcasts_S1024x1_S1024x64)

/-- Minus infinity everywhere. -/
def negInf : FVec F S1024x64 .f32 := broadcast S1024x64 (Scalar.ofBits .f32 0xFF800000#32)

/-- Zero everywhere. -/
def zero : FVec F S1024x64 .f32 := broadcast S1024x64 (Scalar.ofBits .f32 0x00000000#32)

/-- Minus the column number. -/
def negCol : FVec F S1024x64 .f32 :=
  subf zero (sitofp .f32 (iota .tc S1024x64 32 [1] iota_S1024x64_d1_w32))

/-- One at the first greatest entry of each row: among the greatest, the one of greatest minus-column. -/
def pick (x : FVec F S1024x64 .f32) : IVec S1024x64 1 :=
  isMax (F := F) (select (isMax x) negCol negInf)

/-- The queries' absolute values with the entries of the first `r` picks put to minus infinity. -/
def work (q : FVec F S1024x64 .f32) : ℕ → FVec F S1024x64 .f32
  | 0 => absf q
  | r + 1 => select (pick (work q r)) negInf (work q r)

/-- Round `r`'s exponential. -/
def expo (q : FVec F S1024x64 .f32) (r : ℕ) : FVec F S1024x1 .f32 :=
  exp (subf (rowMax (work q r)) (rowMax (work q 0)))

/-- The sum of the four exponentials. -/
def expSum (q : FVec F S1024x64 .f32) : FVec F S1024x1 .f32 :=
  addf (addf (addf (expo q 0) (expo q 1)) (expo q 2)) (expo q 3)

/-- The assignment of keys to bases, as zeros and ones. -/
def assign (k : FVec F S1024x64 .f32) : FVec F S1024x64 .f32 :=
  sitofp .f32 (extui 32 (pick (absf k)) natLt_1_32)

/-- The normalisers: per basis, the sum of the keys assigned to it. -/
def norms (k : FVec F S1024x64 .f32) : FVec F S64x64 .f32 :=
  matmul dot_S1024x64_S1024x64_S64x64_0_0_1_1_n_n (some .fp32) (assign k) k (constant S64x64 .f32 0x00000000#32)

/-- Per query and basis, the query times the basis's normaliser. -/
def denoms (k q : FVec F S1024x64 .f32) : FVec F S1024x64 .f32 :=
  matmul dot_S1024x64_S64x64_S1024x64_1_1_0_0_n_n (some .fp32) q (norms k) (constant S1024x64 .f32 0x00000000#32)

/-- Round `r`'s denominator: the picked basis's, plus the constant. -/
def denom (k q : FVec F S1024x64 .f32) (r : ℕ) : FVec F S1024x1 .f32 :=
  addf (rowSum (select (pick (work q r)) (denoms k q) zero)) (broadcast S1024x1 (Scalar.ofBits .f32 0x358637BD#32))

/-- Round `r`'s weight over its denominator, at the picked basis, zero elsewhere. -/
def gate (k q : FVec F S1024x64 .f32) (r : ℕ) : FVec F S1024x64 .f32 :=
  select (pick (work q r))
    (broadcastTo S1024x64
      (shapeCast S1024x1 (divf (divf (expo q r) (expSum q)) (denom k q r)) shapeCasts_S1024x1_S1024x1)
      broadcasts_S1024x1_S1024x64)
    zero

/-- The four rounds' gates summed from zero. -/
def gates (k q : FVec F S1024x64 .f32) : FVec F S1024x64 .f32 :=
  addf (addf (addf (addf zero (gate k q 0)) (gate k q 1)) (gate k q 2)) (gate k q 3)

/-- The high half of a number. -/
def hi {s : Shape} (x : FVec F s .f32) : FVec F s .bf16 := truncf .bf16 x bitsLt_bf16_f32

/-- The low half of a number: what the high half leaves. -/
def lo {s : Shape} (x : FVec F s .f32) : FVec F s .bf16 :=
  truncf .bf16 (subf x (extf .f32 (hi x) bitsLt_bf16_f32)) bitsLt_bf16_f32

/-- Query times key, from the halves. -/
def scores (k q : FVec F S1024x64 .f32) : FVec F S1024x1024 .f32 :=
  matmul dot_S1024x192_S1024x192_S1024x1024_1_1_0_0_n_n none
    (concatenate S1024x192 1 [⟨S1024x64, hi q⟩, ⟨S1024x64, hi q⟩, ⟨S1024x64, lo q⟩]
      concatenates_S1024x64_S1024x64_S1024x64_S1024x192_d1)
    (concatenate S1024x192 1 [⟨S1024x64, hi k⟩, ⟨S1024x64, lo k⟩, ⟨S1024x64, hi k⟩]
      concatenates_S1024x64_S1024x64_S1024x64_S1024x192_d1)
    (constant S1024x1024 .f32 0x00000000#32)

/-- Per query and key, the gate of the basis the key is assigned to, from the halves. -/
def spread (k q : FVec F S1024x64 .f32) : FVec F S1024x1024 .f32 :=
  matmul dot_S1024x128_S1024x128_S1024x1024_1_1_0_0_n_n none
    (concatenate S1024x128 1 [⟨S1024x64, hi (gates k q)⟩, ⟨S1024x64, lo (gates k q)⟩]
      concatenates_S1024x64_S1024x64_S1024x128_d1)
    (concatenate S1024x128 1 [⟨S1024x64, hi (assign k)⟩, ⟨S1024x64, hi (assign k)⟩]
      concatenates_S1024x64_S1024x64_S1024x128_d1)
    (constant S1024x1024 .f32 0x00000000#32)

/-- The coefficient of each key's value in each query's result. -/
def coef (k q : FVec F S1024x64 .f32) : FVec F S1024x1024 .f32 := mulf (scores k q) (spread k q)

/-- The head's result: the coefficients times the values, from the halves. -/
def out (k v q : FVec F S1024x64 .f32) : FVec F S1024x64 .f32 :=
  addf
    (addf
      (matmul dot_S1024x1024_S1024x64_S1024x64_1_0_0_1_n_n none (hi (coef k q)) (hi v) (constant S1024x64 .f32 0x00000000#32))
      (matmul dot_S1024x1024_S1024x64_S1024x64_1_0_0_1_n_n none (hi (coef k q)) (lo v) (constant S1024x64 .f32 0x00000000#32)))
    (matmul dot_S1024x1024_S1024x64_S1024x64_1_0_0_1_n_n none (lo (coef k q)) (hi v) (constant S1024x64 .f32 0x00000000#32))

/-- A head's block as 1024 rows of 64. -/
def flat (x : Vec F S1x1x1024x64 .f32) : FVec F S1024x64 .f32 := shapeCast S1024x64 x shapeCasts_S1x1x1024x64_S1024x64

/-- The head's result as a block, from the three blocks. -/
def block (k v q : Vec F S1x1x1024x64 .f32) : FVec F S1x1x1024x64 .f32 :=
  shapeCast S1x1x1024x64 (out (flat k) (flat v) (flat q)) shapeCasts_S1024x64_S1x1x1024x64

end Cert.KernelIdeal.Head
-- ==== Proof.HeadEq.lean ====
/-
  The kernel's result array is eight blocks, one per head, each `Head.block` of the head's blocks of the three
  arguments.
-/
module

public import proofs.«01_k».proof.Proof.HeadDefs
public import proofs.«01_k».proof.Proof.Gen.KernelIdeal.Value

@[expose] public section

noncomputable section

namespace Cert.KernelIdeal.Head

open Idealize.ShloMosaic Cert.KernelIdeal Cert.KernelIdeal.Gen Cert.KernelIdeal.Value

variable {F : FTy → Type} [FloatOps F]

/-- The result array, head by head. -/
def result (a0 a1 a2 : Vec F S1x8x1024x64 .f32) : Vec F S1x8x1024x64 .f32 :=
  View.canon [
    ⟨r0_7, block (View.ld a0 r0_7) (View.ld a1 r0_7) (View.ld a2 r0_7)⟩,
    ⟨r0_6, block (View.ld a0 r0_6) (View.ld a1 r0_6) (View.ld a2 r0_6)⟩,
    ⟨r0_5, block (View.ld a0 r0_5) (View.ld a1 r0_5) (View.ld a2 r0_5)⟩,
    ⟨r0_4, block (View.ld a0 r0_4) (View.ld a1 r0_4) (View.ld a2 r0_4)⟩,
    ⟨r0_3, block (View.ld a0 r0_3) (View.ld a1 r0_3) (View.ld a2 r0_3)⟩,
    ⟨r0_2, block (View.ld a0 r0_2) (View.ld a1 r0_2) (View.ld a2 r0_2)⟩,
    ⟨r0_1, block (View.ld a0 r0_1) (View.ld a1 r0_1) (View.ld a2 r0_1)⟩,
    ⟨r0_0, block (View.ld a0 r0_0) (View.ld a1 r0_0) (View.ld a2 r0_0)⟩]

set_option maxRecDepth 8192 in
set_option maxHeartbeats 4000000 in
theorem result_eq (a0 a1 a2 : Vec F S1x8x1024x64 .f32) : G3 a0 a1 a2 = result a0 a1 a2 := by
  unfold G3 result
  rfl

end Cert.KernelIdeal.Head
-- ==== Proof.FirstMax.lean ====
/-
  The first greatest entry of a row, and the entries picked one after another by putting each picked one to
  minus infinity. Pure order facts: a row has exactly one first greatest entry; the picks of a row whose
  entries all exceed minus infinity are distinct, and each stands before every entry not yet picked, in the
  order "greater first, of equals the earlier first".
-/
module

public import Mathlib.Data.EReal.Basic
public import Mathlib.Data.Fintype.Lattice
public import Mathlib.Data.Finite.Defs
public import Mathlib.Data.Fintype.EquivFin
public import Mathlib.Order.WellFounded
public import Mathlib.Data.Fintype.Card

@[expose] public section

noncomputable section

namespace Cert.FirstMax

variable {n : ℕ}

/-- `i` is the first among the greatest entries of `w`. -/
def IsFirst (w : Fin n → EReal) (i : Fin n) : Prop := (∀ j, w j ≤ w i) ∧ ∀ j, j < i → w j < w i

/-- A row has a first greatest entry. -/
theorem exists_isFirst [NeZero n] (w : Fin n → EReal) : ∃ i, IsFirst w i := by
  obtain ⟨m, hm⟩ := Finite.exists_max w
  classical
  let S : Finset (Fin n) := Finset.univ.filter fun i => ∀ j, w j ≤ w i
  have hS : S.Nonempty := ⟨m, by simp [S, hm]⟩
  refine ⟨S.min' hS, ?_, ?_⟩
  · have := S.min'_mem hS
    simpa [S] using this
  · intro j hj
    by_contra hlt
    have h1 : w (S.min' hS) ≤ w j := not_lt.mp hlt
    have h2 := S.min'_mem hS
    simp only [S, Finset.mem_filter, Finset.mem_univ, true_and] at h2
    have : j ∈ S := by
      simp only [S, Finset.mem_filter, Finset.mem_univ, true_and]
      exact fun l => (h2 l).trans h1
    exact absurd (S.min'_le j this) (not_le.mpr hj)

/-- A row has only one first greatest entry. -/
theorem IsFirst.unique {w : Fin n → EReal} {i j : Fin n} (hi : IsFirst w i) (hj : IsFirst w j) : i = j := by
  rcases lt_trichotomy i j with h | h | h
  · exact absurd (hj.2 i h) (not_lt.mpr (hi.1 j))
  · exact h
  · exact absurd (hi.2 j h) (not_lt.mpr (hj.1 i))

/-- The place of the first greatest entry. -/
def first [NeZero n] (w : Fin n → EReal) : Fin n := (exists_isFirst w).choose

theorem first_spec [NeZero n] (w : Fin n → EReal) : IsFirst w (first w) := (exists_isFirst w).choose_spec

theorem isFirst_iff [NeZero n] {w : Fin n → EReal} {i : Fin n} : IsFirst w i ↔ i = first w :=
  ⟨fun h => h.unique (first_spec w), fun h => h ▸ first_spec w⟩

/-- The row with the first `r` picked entries put to minus infinity. -/
def rest [NeZero n] (w : Fin n → EReal) : ℕ → Fin n → EReal
  | 0 => w
  | r + 1 => Function.update (rest w r) (first (rest w r)) ⊥

/-- The place picked in round `r`. -/
def sel [NeZero n] (w : Fin n → EReal) (r : ℕ) : Fin n := first (rest w r)

variable [NeZero n] {w : Fin n → EReal}

theorem rest_of_sel {r r' : ℕ} (h : r' < r) : rest w r (sel w r') = ⊥ := by
  induction r with
  | zero => omega
  | succ r ih =>
    by_cases h' : sel w r' = sel w r
    · rw [h']; exact Function.update_self ..
    · show Function.update (rest w r) (sel w r) ⊥ (sel w r') = ⊥
      rw [Function.update_of_ne h']
      exact ih (lt_of_le_of_ne (Nat.lt_succ_iff.mp h) fun e => h' (e ▸ rfl))

theorem rest_of_ne {r : ℕ} {j : Fin n} (h : ∀ r' < r, j ≠ sel w r') : rest w r j = w j := by
  induction r with
  | zero => rfl
  | succ r ih =>
    show Function.update (rest w r) (sel w r) ⊥ j = w j
    rw [Function.update_of_ne (h r (Nat.lt_succ_self r))]
    exact ih fun r' hr' => h r' (hr'.trans (Nat.lt_succ_self r))

theorem rest_le (r : ℕ) (j : Fin n) : rest w r j ≤ w j := by
  by_cases h : ∀ r' < r, j ≠ sel w r'
  · rw [rest_of_ne h]
  · push Not at h
    obtain ⟨r', hr', e⟩ := h
    rw [e, rest_of_sel hr']; exact bot_le

/-- Some entry is not among fewer picks than entries. -/
theorem exists_not_sel {r : ℕ} (hr : r < n) : ∃ j : Fin n, ∀ r' < r, j ≠ sel w r' := by
  classical
  by_contra hc
  push Not at hc
  have hsub : (Finset.univ : Finset (Fin n)) ⊆ (Finset.range r).image (sel w) := fun j _ => by
    obtain ⟨r', h1, h2⟩ := hc j
    exact Finset.mem_image.mpr ⟨r', Finset.mem_range.mpr h1, h2.symm⟩
  have := (Finset.card_le_card hsub).trans Finset.card_image_le
  simp at this
  omega

/-- A pick is none of the earlier picks. -/
theorem sel_ne (hw : ∀ j, ⊥ < w j) {r r' : ℕ} (hr : r < n) (h : r' < r) : sel w r ≠ sel w r' := fun e => by
  obtain ⟨j, hj⟩ := exists_not_sel (w := w) hr
  have h1 := (first_spec (rest w r)).1 j
  rw [rest_of_ne hj] at h1
  have h2 : rest w r (first (rest w r)) = ⊥ := by
    have := rest_of_sel (w := w) h
    rwa [← e] at this
  rw [h2] at h1
  exact absurd (hw j) (not_lt.mpr h1)

theorem rest_sel (hw : ∀ j, ⊥ < w j) {r : ℕ} (hr : r < n) : rest w r (sel w r) = w (sel w r) :=
  rest_of_ne fun _ h => sel_ne hw hr h

theorem sel_injective (hw : ∀ j, ⊥ < w j) {r r' : ℕ} (hr : r < n) (hr' : r' < n) (e : sel w r = sel w r') : r = r' := by
  rcases lt_trichotomy r r' with h | h | h
  · exact absurd e.symm (sel_ne hw hr' h)
  · exact h
  · exact absurd e (sel_ne hw hr h)

/-- A pick stands before every entry not picked up to it: greater, or equal and earlier. -/
theorem sel_before (hw : ∀ j, ⊥ < w j) {r : ℕ} (hr : r < n) {j : Fin n} (hj : ∀ r' ≤ r, j ≠ sel w r') :
    w j < w (sel w r) ∨ (w j = w (sel w r) ∧ sel w r < j) := by
  have e : rest w r j = w j := rest_of_ne fun r' h => hj r' h.le
  have h1 : w j ≤ w (sel w r) := by
    have := (first_spec (rest w r)).1 j
    rw [e] at this
    exact this.trans (rest_le r _)
  rcases h1.lt_or_eq with h | h
  · exact Or.inl h
  refine Or.inr ⟨h, ?_⟩
  rcases lt_trichotomy j (sel w r) with h2 | h2 | h2
  · have := (first_spec (rest w r)).2 j h2
    rw [e, show rest w r (first (rest w r)) = w (sel w r) from rest_sel hw hr, h] at this
    exact absurd this (lt_irrefl _)
  · exact absurd h2 (hj r le_rfl)
  · exact h2

/-- The first pick is the greatest. -/
theorem le_sel_zero (j : Fin n) : w j ≤ w (sel w 0) := (first_spec w).1 j

end Cert.FirstMax
-- ==== Proof.Reals.lean ====
/-
  Finite extended reals: sums, products, quotients and absolute values of numbers that are real stay real.
-/
module

public import Idealize.ShloMosaic.PureOps.Ideal

@[expose] public section

noncomputable section

namespace Cert.Reals

open Idealize.ShloMosaic

/-- A finite sum of real numbers, in the extended reals, is their real sum. -/
theorem sum_coe {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- A finite sum of extended reals that are all real is their real sum. -/
theorem sum_eq {ι : Type} (s : Finset ι) {f : ι → EReal} {g : ι → ℝ} (h : ∀ i ∈ s, f i = (g i : EReal)) :
    ∑ i ∈ s, f i = ((∑ i ∈ s, g i : ℝ) : EReal) := (Finset.sum_congr rfl h).trans (sum_coe s g)

/-- The quotient of two reals, the divisor not zero. -/
theorem div_eq {a b : ℝ} (hb : b ≠ 0) : Ideal.div (a : EReal) (b : EReal) = ((a / b : ℝ) : EReal) := by
  rw [Ideal.div_coe hb, ← EReal.coe_mul]; congr 1; ring

/-- The absolute value of a real. -/
theorem max_neg (a : ℝ) : max (a : EReal) (-(a : EReal)) = ((|a| : ℝ) : EReal) := by
  rw [← EReal.coe_neg]
  exact (EReal.coe_strictMono.monotone.map_max).symm

/-- A number whose absolute value is below plus infinity is real. -/
theorem exists_real {x : EReal} (h : max x (-x) < ⊤) : ∃ r : ℝ, x = r := by
  induction x with
  | bot => simp at h
  | top => simp at h
  | coe r => exact ⟨r, rfl⟩

/-- The small constant added to a denominator is a real number. -/
theorem exists_eps : ∃ ε : ℝ, Ideal.ofBits .f32 0x358637BD#32 = (ε : EReal) := by
  simp [Ideal.ofBits, Ideal.ieee]
  exact ⟨_, rfl⟩

/-- The small constant, as a real number. -/
def eps : ℝ := exists_eps.choose

theorem eps_coe : Ideal.ofBits .f32 0x358637BD#32 = (eps : EReal) := exists_eps.choose_spec

theorem negInf_eq : Ideal.ofBits .f32 0xFF800000#32 = ⊥ := by simp [Ideal.ofBits, Ideal.ieee]

theorem posInf_eq : Ideal.ofBits .f32 0x7F800000#32 = ⊤ := by simp [Ideal.ofBits, Ideal.ieee]

theorem zero_eq : Ideal.ofBits .f32 0x00000000#32 = 0 := by simp [Ideal.ofBits, Ideal.ieee]

end Cert.Reals
-- ==== Proof.HeadPick.lean ====
/-
  The kernel's pick: it marks the first greatest entry of each row. So the working array of round `r` is the
  rows of absolute values with the first `r` choices put to minus infinity.
-/
module

public import proofs.«01_k».proof.Proof.HeadDefs
public import proofs.«01_k».proof.Proof.FirstMax
public import proofs.«01_k».proof.Proof.Reals
public import Idealize.ShloMosaic.Lib.Pointwise
public import Idealize.ShloMosaic.Lib.ValueIdxCoords

@[expose] public section

noncomputable section

namespace Cert.KernelIdeal.Head

open Idealize.ShloMosaic Cert.KernelIdeal Cert.FirstMax

/-- Row `s` of an array. -/
abbrev row (x : FVec Ideal S1024x64 .f32) (s : Fin 1024) : Fin 64 → EReal := fun j => x (ix2 s j)

/-- The greatest entry of a row is the entry at its first greatest place. -/
theorem rowMax_apply (x : FVec Ideal S1024x64 .f32) (s : Fin 1024) :
    rowMax x (ix2 s 0) = row x s (first (row x s)) := by
  have h : rowMax x (ix2 s 0)
      = Finset.fold max (Ideal.ofBits FTy.f32 0xFF800000#32) (fun l => x (ix2 s l)) Finset.univ := by
    unfold rowMax; pointwise
  rw [h, Cert.Reals.negInf_eq]
  refine le_antisymm (Finset.fold_max_le _ |>.mpr ⟨bot_le, fun j _ => (first_spec (row x s)).1 j⟩) ?_
  exact Finset.le_fold_max _ |>.mpr (.inr ⟨_, Finset.mem_univ _, le_rfl⟩)

theorem rowSum_apply (x : FVec Ideal S1024x64 .f32) (s : Fin 1024) :
    rowSum x (ix2 s 0) = ∑ j, x (ix2 s j) := by
  unfold rowSum; pointwise

theorem isMax_apply (x : FVec Ideal S1024x64 .f32) (s : Fin 1024) (j : Fin 64) :
    isMax x (ix2 s j) = BitVec.ofBool (decide (x (ix2 s j) = row x s (first (row x s)))) := by
  rw [← rowMax_apply]
  unfold isMax; pointwise

theorem negCol_apply (s : Fin 1024) (j : Fin 64) :
    (negCol : FVec Ideal S1024x64 .f32) (ix2 s j) = ((-(j : ℝ) : ℝ) : EReal) := by
  have h : (negCol : FVec Ideal S1024x64 .f32) (ix2 s j)
      = 0 - FloatOps.sitofp FTy.f32 (BitVec.ofNat 32 (j : ℕ)) := by
    unfold negCol zero; pointwise
  have hj : (BitVec.ofNat 32 (j : ℕ)).toInt = (j : ℤ) := by
    rw [BitVec.toInt_eq_toNat_of_lt] <;> simp <;> omega
  rw [h]
  show (0 : EReal) - (((BitVec.ofNat 32 (j : ℕ)).toInt : ℝ) : EReal) = _
  rw [hj, EReal.coe_neg, zero_sub]
  norm_cast

theorem select_ofBool {α : Type} (p : Prop) [Decidable p] (a b : α) :
    Scalar.select (BitVec.ofBool (decide p)) a b = if p then a else b := by
  by_cases h : p <;> simp [Scalar.select, h]

/-- The pick marks the first greatest entry of each row and no other. -/
theorem pick_apply (x : FVec Ideal S1024x64 .f32) (s : Fin 1024) (j : Fin 64) :
    pick x (ix2 s j) = BitVec.ofBool (decide (j = first (row x s))) := by
  set y : FVec Ideal S1024x64 .f32 := select (isMax x) negCol negInf with hy
  have hrow : ∀ l, row y s l = if x (ix2 s l) = row x s (first (row x s)) then ((-(l : ℝ) : ℝ) : EReal) else ⊥ := by
    intro l
    rw [← select_ofBool, ← isMax_apply, ← negCol_apply s l, ← Cert.Reals.negInf_eq]
    rfl
  have hself : row y s (first (row x s)) = ((-(first (row x s) : ℝ) : ℝ) : EReal) := by
    rw [hrow, if_pos rfl]
  have hlt : ∀ l, l ≠ first (row x s) → row y s l < row y s (first (row x s)) := by
    intro l hl
    rw [hself, hrow]
    split_ifs with he
    · rw [EReal.coe_lt_coe_iff, neg_lt_neg_iff, Nat.cast_lt]
      refine lt_of_le_of_ne ?_ (fun e => hl (Fin.ext e.symm))
      by_contra hc
      exact absurd he ((first_spec (row x s)).2 l (by simpa using hc)).ne
    · exact EReal.bot_lt_coe _
  have hf : first (row y s) = first (row x s) :=
    (isFirst_iff.mp ⟨fun l => by
      by_cases hl : l = first (row x s)
      · rw [hl]
      · exact (hlt l hl).le, fun l hl => hlt l hl.ne⟩).symm
  have := isMax_apply y s j
  rw [hf] at this
  rw [pick, ← hy, this]
  congr 2
  refine propext ⟨fun e => ?_, fun e => by rw [e]⟩
  by_contra hj
  exact (hlt j hj).ne e

/-- Row `s` of round `r`'s working array. -/
theorem row_work (q : FVec Ideal S1024x64 .f32) (r : ℕ) (s : Fin 1024) :
    row (work q r) s = rest (row (absf q) s) r := by
  induction r with
  | zero => rfl
  | succ r ih =>
    funext j
    have h : row (work q (r + 1)) s j
        = Scalar.select (pick (work q r) (ix2 s j)) (Ideal.ofBits .f32 0xFF800000#32) (row (work q r) s j) := rfl
    rw [h, pick_apply, select_ofBool, Cert.Reals.negInf_eq, ih]
    show (if j = sel (row (absf q) s) r then ⊥ else rest (row (absf q) s) r j)
      = Function.update (rest (row (absf q) s) r) (sel (row (absf q) s) r) ⊥ j
    rw [Function.update_apply]

/-- Round `r`'s pick marks the `r`-th choice. -/
theorem pick_work (q : FVec Ideal S1024x64 .f32) (r : ℕ) (s : Fin 1024) (j : Fin 64) :
    pick (work q r) (ix2 s j) = BitVec.ofBool (decide (j = sel (row (absf q) s) r)) := by
  rw [pick_apply, row_work]; rfl

/-- The greatest entry of round `r`'s working array is the `r`-th choice's absolute value. -/
theorem rowMax_work (q : FVec Ideal S1024x64 .f32) (r : ℕ) (s : Fin 1024) :
    rowMax (work q r) (ix2 s 0) = rest (row (absf q) s) r (sel (row (absf q) s) r) := by
  rw [rowMax_apply, row_work]; rfl

end Cert.KernelIdeal.Head
-- ==== Proof.Spec.lean ====
/-
  One head's result over the real numbers, and the two orders of summation that the kernel and the reference
  use. `K`, `V`, `Q` are the head's keys, values and queries, 1024 rows of 64.
-/
module

public import proofs.«01_k».proof.Proof.FirstMax
public import Mathlib.Analysis.SpecialFunctions.Exp

@[expose] public section

noncomputable section

namespace Cert.Spec

open Cert.FirstMax

variable (K V Q : Fin 1024 → Fin 64 → ℝ) (ε : ℝ)

/-- The absolute values of row `t`. -/
def absRow (X : Fin 1024 → Fin 64 → ℝ) (t : Fin 1024) : Fin 64 → EReal := fun e => ((|X t e| : ℝ) : EReal)

/-- The basis key `t` is assigned to: the place of its first greatest absolute value. -/
def basis (t : Fin 1024) : Fin 64 := first (absRow K t)

/-- The basis query `s` picks in round `r`. -/
def pickOf (s : Fin 1024) (r : ℕ) : Fin 64 := sel (absRow Q s) r

/-- The absolute value query `s` has at the basis of round `r`. -/
def score (s : Fin 1024) (r : ℕ) : ℝ := |Q s (pickOf Q s r)|

/-- Round `r`'s exponential. -/
def ex (s : Fin 1024) (r : ℕ) : ℝ := Real.exp (score Q s r - score Q s 0)

/-- The four exponentials' sum. -/
def exSum (s : Fin 1024) : ℝ := ex Q s 0 + ex Q s 1 + ex Q s 2 + ex Q s 3

/-- The normaliser of basis `i`: the sum of the keys assigned to it. -/
def norm (i e : Fin 64) : ℝ := ∑ t, if basis K t = i then K t e else 0

/-- The memory matrix of basis `i`: the sum of the outer products of the keys assigned to it. -/
def mem (i d e : Fin 64) : ℝ := ∑ t, if basis K t = i then V t d * K t e else 0

/-- Query `s`'s denominator in round `r`. -/
def den (s : Fin 1024) (r : ℕ) : ℝ := (∑ e, Q s e * norm K (pickOf Q s r) e) + ε

/-- Round `r`'s softmax weight. -/
def weight (s : Fin 1024) (r : ℕ) : ℝ := ex Q s r / exSum Q s

/-- Round `r`'s weight over its denominator, where basis `i` is the picked one. -/
def gateAt (s : Fin 1024) (r : ℕ) (i : Fin 64) : ℝ := if i = pickOf Q s r then weight Q s r / den K Q ε s r else 0

/-- The four rounds' gates summed. -/
def gatesAt (s : Fin 1024) (i : Fin 64) : ℝ :=
  gateAt K Q ε s 0 i + gateAt K Q ε s 1 i + gateAt K Q ε s 2 i + gateAt K Q ε s 3 i

/-- The result key by key, as the kernel sums it. -/
def byKey (s : Fin 1024) (d : Fin 64) : ℝ := ∑ t, ((∑ e, Q s e * K t e) * gatesAt K Q ε s (basis K t)) * V t d

/-- Round `r`'s weighted value, as the reference computes it. -/
def roundVal (s : Fin 1024) (r : ℕ) (d : Fin 64) : ℝ :=
  weight Q s r * ((∑ e, mem K V (pickOf Q s r) d e * Q s e) / den K Q ε s r)

/-- The result round by round, as the reference sums it. -/
def byRound (s : Fin 1024) (d : Fin 64) : ℝ :=
  roundVal K V Q ε s 0 d + roundVal K V Q ε s 1 d + roundVal K V Q ε s 2 d + roundVal K V Q ε s 3 d

theorem exSum_pos (s : Fin 1024) : 0 < exSum Q s := by
  unfold exSum ex; positivity

/-- One round's gate summed over the keys is the round's weighted value. -/
theorem sum_gateAt (s : Fin 1024) (r : ℕ) (d : Fin 64) :
    ∑ t, ((∑ e, Q s e * K t e) * gateAt K Q ε s r (basis K t)) * V t d = roundVal K V Q ε s r d := by
  have h : ∑ e, mem K V (pickOf Q s r) d e * Q s e
      = ∑ t, if basis K t = pickOf Q s r then (∑ e, Q s e * K t e) * V t d else 0 := by
    simp only [mem, Finset.sum_mul]
    rw [Finset.sum_comm]
    refine Finset.sum_congr rfl fun t _ => ?_
    split_ifs
    · exact Finset.sum_congr rfl fun e _ => by ring
    · simp
  rw [roundVal, h, div_eq_mul_inv, Finset.sum_mul, Finset.mul_sum]
  refine Finset.sum_congr rfl fun t _ => ?_
  unfold gateAt
  split_ifs
  · ring
  · simp

/-- The two orders of summation give one result. -/
theorem byKey_eq_byRound (s : Fin 1024) (d : Fin 64) : byKey K V Q ε s d = byRound K V Q ε s d := by
  unfold byKey byRound
  simp only [← sum_gateAt, ← Finset.sum_add_distrib, gatesAt]
  exact Finset.sum_congr rfl fun t _ => by ring

end Cert.Spec
-- ==== Proof.HeadValue.lean ====
/-
  The kernel's result for one head over the real numbers: where the head's keys, values and queries are real
  and no denominator is zero, it is the sum over the keys of `Spec.byKey`.
-/
module

public import proofs.«01_k».proof.Proof.HeadPick
public import proofs.«01_k».proof.Proof.Spec

@[expose] public section

noncomputable section

namespace Cert.KernelIdeal.Head

open Idealize.ShloMosaic Cert.KernelIdeal Cert.FirstMax Cert.Reals

variable {k v q : FVec Ideal S1024x64 .f32} {K V Q : Fin 1024 → Fin 64 → ℝ}

/-- An array whose entries are the real numbers `X`. -/
def IsReal {n m : ℕ} (x : FVec Ideal ⟨2, ![n, m]⟩ .f32) (X : Fin n → Fin m → ℝ) : Prop :=
  ∀ s e, x (ix2 s e) = (X s e : EReal)

theorem row_absf {x : FVec Ideal S1024x64 .f32} {X : Fin 1024 → Fin 64 → ℝ} (hx : IsReal x X) (s : Fin 1024) :
    row (absf x) s = Cert.Spec.absRow X s := by
  funext e
  show max (x (ix2 s e)) (-(x (ix2 s e))) = _
  rw [hx, max_neg]; rfl

theorem absRow_bot (X : Fin 1024 → Fin 64 → ℝ) (s : Fin 1024) (e : Fin 64) : ⊥ < Cert.Spec.absRow X s e :=
  EReal.bot_lt_coe _

theorem rowMax_real (hq : IsReal q Q) (s : Fin 1024) {r : ℕ} (hr : r < 4) :
    rowMax (work q r) (ix2 s 0) = (Cert.Spec.score Q s r : EReal) := by
  rw [rowMax_work, row_absf hq, rest_sel (absRow_bot Q s) (by omega)]; rfl

theorem expo_real (hq : IsReal q Q) (s : Fin 1024) {r : ℕ} (hr : r < 4) :
    expo q r (ix2 s 0) = (Cert.Spec.ex Q s r : EReal) := by
  have h : expo q r (ix2 s 0) = Ideal.exp (rowMax (work q r) (ix2 s 0) - rowMax (work q 0) (ix2 s 0)) := by
    unfold expo; pointwise
  rw [h, rowMax_real hq s hr, rowMax_real hq s (by omega), ← EReal.coe_sub]; rfl

theorem expSum_real (hq : IsReal q Q) (s : Fin 1024) :
    expSum q (ix2 s 0) = (Cert.Spec.exSum Q s : EReal) := by
  show expo q 0 (ix2 s 0) + expo q 1 (ix2 s 0) + expo q 2 (ix2 s 0) + expo q 3 (ix2 s 0) = _
  rw [expo_real hq s (by omega), expo_real hq s (by omega), expo_real hq s (by omega), expo_real hq s (by omega)]
  simp only [← EReal.coe_add]; rfl

theorem assign_real (hk : IsReal k K) :
    IsReal (assign k) fun t i => if i = Cert.Spec.basis K t then 1 else 0 := fun t i => by
  show (((pick (absf k) (ix2 t i)).zeroExtend 32).toInt : ℝ) = ((_ : ℝ) : EReal)
  rw [pick_apply, row_absf hk]
  show ((((BitVec.ofBool (decide (i = Cert.Spec.basis K t))).zeroExtend 32).toInt : ℝ) : EReal) = _
  by_cases h : i = Cert.Spec.basis K t <;> simp [h]

theorem norms_real (hk : IsReal k K) : IsReal (norms k) (Cert.Spec.norm K) := fun i e => by
  have h : norms k (ix2 i e) = ∑ t, assign k (ix2 t i) * k (ix2 t e) := by unfold norms; pointwise
  rw [h]
  refine (sum_eq _ fun t _ => ?_).trans rfl
  rw [assign_real hk, hk]
  by_cases hi : i = Cert.Spec.basis K t
  · simp [hi]
  · simp [hi, Ne.symm hi]

theorem denoms_real (hk : IsReal k K) (hq : IsReal q Q) :
    IsReal (denoms k q) fun s i => ∑ e, Q s e * Cert.Spec.norm K i e := fun s i => by
  have h : denoms k q (ix2 s i) = ∑ e, q (ix2 s e) * norms k (ix2 i e) := by unfold denoms; pointwise
  rw [h]
  exact sum_eq _ fun e _ => by rw [hq, norms_real hk, EReal.coe_mul]

theorem pick_real (hq : IsReal q Q) (s : Fin 1024) (r : ℕ) (i : Fin 64) :
    pick (work q r) (ix2 s i) = BitVec.ofBool (decide (i = Cert.Spec.pickOf Q s r)) := by
  rw [pick_work, row_absf hq]; rfl

theorem denom_real (hk : IsReal k K) (hq : IsReal q Q) (s : Fin 1024) (r : ℕ) :
    denom k q r (ix2 s 0) = (Cert.Spec.den K Q eps s r : EReal) := by
  show rowSum (select (pick (work q r)) (denoms k q) zero) (ix2 s 0) + Ideal.ofBits .f32 0x358637BD#32 = _
  rw [rowSum_apply, eps_coe]
  have h : ∀ i, select (pick (work q r)) (denoms k q) zero (ix2 s i)
      = ((if i = Cert.Spec.pickOf Q s r then ∑ e, Q s e * Cert.Spec.norm K i e else 0 : ℝ) : EReal) := fun i => by
    show Scalar.select (pick (work q r) (ix2 s i)) (denoms k q (ix2 s i)) (Ideal.ofBits .f32 0x00000000#32) = _
    rw [pick_real hq, select_ofBool, denoms_real hk hq, zero_eq]
    split_ifs <;> rfl
  rw [sum_eq _ fun i _ => h i, ← EReal.coe_add]
  simp [Cert.Spec.den]

theorem gate_real (hk : IsReal k K) (hq : IsReal q Q) (s : Fin 1024) {r : ℕ} (hr : r < 4)
    (hd : Cert.Spec.den K Q eps s r ≠ 0) (i : Fin 64) :
    gate k q r (ix2 s i) = (Cert.Spec.gateAt K Q eps s r i : EReal) := by
  have h : gate k q r (ix2 s i) = Scalar.select (pick (work q r) (ix2 s i))
      (Ideal.div (Ideal.div (expo q r (ix2 s 0)) (expSum q (ix2 s 0))) (denom k q r (ix2 s 0)))
      (Ideal.ofBits .f32 0x00000000#32) := by unfold gate zero; pointwise
  rw [h, pick_real hq, select_ofBool, expo_real hq s hr, expSum_real hq, denom_real hk hq,
    div_eq (Cert.Spec.exSum_pos Q s).ne', div_eq hd, zero_eq]
  unfold Cert.Spec.gateAt Cert.Spec.weight
  split_ifs <;> rfl

theorem gates_real (hk : IsReal k K) (hq : IsReal q Q) (hd : ∀ s, ∀ r < 4, Cert.Spec.den K Q eps s r ≠ 0) :
    IsReal (gates k q) (Cert.Spec.gatesAt K Q eps) := fun s i => by
  show Ideal.ofBits .f32 0x00000000#32 + gate k q 0 (ix2 s i) + gate k q 1 (ix2 s i) + gate k q 2 (ix2 s i)
    + gate k q 3 (ix2 s i) = _
  rw [gate_real hk hq s (by omega) (hd s 0 (by omega)), gate_real hk hq s (by omega) (hd s 1 (by omega)),
    gate_real hk hq s (by omega) (hd s 2 (by omega)), gate_real hk hq s (by omega) (hd s 3 (by omega)), zero_eq, zero_add]
  simp only [← EReal.coe_add]; rfl

/-- The high half of a number is, over the reals, the number. -/
theorem hi_apply {s : Shape} (x : FVec Ideal s .f32) (i : s.Idx) : hi x i = x i := rfl

/-- The low half of a real number is zero. -/
theorem lo_apply {s : Shape} {x : FVec Ideal s .f32} {i : s.Idx} {a : ℝ} (h : x i = (a : EReal)) : lo x i = 0 := by
  show x i - x i = 0
  rw [h, ← EReal.coe_sub, sub_self]; rfl

/-- A sum over 192 places is three sums over 64. -/
theorem sum_three (f : Fin 192 → EReal) :
    ∑ x, f x = ∑ e : Fin 64, f ⟨e, by omega⟩ + (∑ e : Fin 64, f ⟨64 + e, by omega⟩ + ∑ e : Fin 64, f ⟨128 + e, by omega⟩) := by
  rw [show (∑ x, f x) = ∑ x : Fin (64 + (64 + 64)), f x from rfl, Fin.sum_univ_add, Fin.sum_univ_add]
  rfl

theorem scores_real (hk : IsReal k K) (hq : IsReal q Q) :
    IsReal (scores k q) fun s t => ∑ e, Q s e * K t e := fun s t => by
  unfold scores
  pointwise
  rw [sum_three]
  have h1 : ∀ e : Fin 64, ¬ 64 + (e : ℕ) < 64 := fun e => by omega
  have h2 : ∀ e : Fin 64, ¬ 128 + (e : ℕ) < 64 := fun e => by omega
  have h3 : ∀ e : Fin 64, ¬ 128 + (e : ℕ) - 64 < 64 := fun e => by omega
  have h4 : ∀ e : Fin 64, 64 + (e : ℕ) - 64 = e := fun e => by omega
  simp only [Fin.is_lt, dite_true, h1, h2, h3, h4, dite_false, Fin.eta, hi_apply, lo_apply (hk _ _), lo_apply (hq _ _),
    zero_mul, mul_zero, Finset.sum_const_zero, add_zero]
  exact sum_eq _ fun e _ => by rw [hq, hk, EReal.coe_mul]

theorem spread_real (hk : IsReal k K) (hq : IsReal q Q) (hd : ∀ s, ∀ r < 4, Cert.Spec.den K Q eps s r ≠ 0) :
    IsReal (spread k q) fun s t => Cert.Spec.gatesAt K Q eps s (Cert.Spec.basis K t) := fun s t => by
  unfold spread
  pointwise
  simp only [hi_apply, lo_apply (gates_real hk hq hd _ _), zero_mul, Finset.sum_const_zero, add_zero]
  rw [sum_eq _ fun e _ => by rw [gates_real hk hq hd, assign_real hk, ← EReal.coe_mul]]
  simp

theorem coef_real (hk : IsReal k K) (hq : IsReal q Q) (hd : ∀ s, ∀ r < 4, Cert.Spec.den K Q eps s r ≠ 0) :
    IsReal (coef k q) fun s t => (∑ e, Q s e * K t e) * Cert.Spec.gatesAt K Q eps s (Cert.Spec.basis K t) := fun s t => by
  show scores k q (ix2 s t) * spread k q (ix2 s t) = _
  rw [scores_real hk hq, spread_real hk hq hd, ← EReal.coe_mul]

/-- The head's result over the real numbers. -/
theorem out_real (hk : IsReal k K) (hv : IsReal v V) (hq : IsReal q Q)
    (hd : ∀ s, ∀ r < 4, Cert.Spec.den K Q eps s r ≠ 0) : IsReal (out k v q) (Cert.Spec.byKey K V Q eps) := fun s d => by
  unfold out
  pointwise
  simp only [hi_apply, lo_apply (coef_real hk hq hd _ _), lo_apply (hv _ _), zero_mul, mul_zero,
    Finset.sum_const_zero, add_zero]
  exact sum_eq _ fun t _ => by rw [coef_real hk hq hd, hv, ← EReal.coe_mul]

end Cert.KernelIdeal.Head
-- ==== Proof.HeadWhole.lean ====
/-
  The kernel's result array, at one element: head `h`'s result, from head `h` of the three arguments.
-/
module

public import proofs.«01_k».proof.Proof.HeadEq
public import proofs.«01_k».proof.Proof.HeadValue
public import Idealize.ShloMosaic.Lib.Pipeline.ValueKit.Tiles

@[expose] public section

noncomputable section

namespace Cert.KernelIdeal.Head

open Idealize.ShloMosaic Cert.KernelIdeal Cert.KernelIdeal.Gen

/-- Head `h` of an array. -/
def headOf (a : Vec Ideal S1x8x1024x64 .f32) (h : Fin 8) : FVec Ideal S1024x64 .f32 := fun i => a (ix4 0 h (i 0) (i 1))

theorem block_apply (k v q : Vec Ideal S1x1x1024x64 .f32) (s : Fin 1024) (d : Fin 64) :
    block k v q (ix4 0 0 s d) = out (flat k) (flat v) (flat q) (ix2 s d) := by
  unfold block; pointwise

theorem flat_apply (x : Vec Ideal S1x1x1024x64 .f32) (s : Fin 1024) (d : Fin 64) : flat x (ix2 s d) = x (ix4 0 0 s d) := by
  unfold flat; pointwise

/-- A head's block, loaded from an array and laid out in rows, is that head of the array. -/
theorem flat_ld (a : Vec Ideal S1x8x1024x64 .f32) (h : Fin 8)
    (inb : ∀ i, (![0, (h : ℕ), 0, 0] : Fin 4 → ℕ) i + S1x1x1024x64.size i ≤ S1x8x1024x64.size i) :
    flat (View.ld a (Rect.unit (s := S1x8x1024x64) ![0, h, 0, 0] S1x1x1024x64.size inb)) = headOf a h := by
  funext i
  obtain ⟨s, d, rfl⟩ : ∃ (s : Fin 1024) (d : Fin 64), i = ix2 s d := ⟨i 0, i 1, by funext a; fin_cases a <;> rfl⟩
  rw [flat_apply]
  refine View.ld_unit_apply_of a _ _ _ _ (ix4 0 h s d) fun b => ?_
  fin_cases b <;> simp [ix4]

/-- The piece head `n` stores, where it holds the element `(0, h, s, d)`. -/
theorem piece_at (a0 a1 a2 : Vec Ideal S1x8x1024x64 .f32) (h : Fin 8) (s : Fin 1024) (d : Fin 64) (n : ℕ)
    (inb : ∀ i, (![0, n, 0, 0] : Fin 4 → ℕ) i + S1x1x1024x64.size i ≤ S1x8x1024x64.size i) :
    View.TileAt (Val := Elt Ideal) (S := S1x8x1024x64) (e := .f32) (ix4 0 h s d) ![0, n, 0, 0] S1x1x1024x64.size
      (block (View.ld a0 (Rect.unit (s := S1x8x1024x64) ![0, n, 0, 0] S1x1x1024x64.size inb))
        (View.ld a1 (Rect.unit (s := S1x8x1024x64) ![0, n, 0, 0] S1x1x1024x64.size inb))
        (View.ld a2 (Rect.unit (s := S1x8x1024x64) ![0, n, 0, 0] S1x1x1024x64.size inb)))
      (out (headOf a0 h) (headOf a1 h) (headOf a2 h) (ix2 s d)) := by
  intro x hx
  have h1 : ((h : ℕ)) = n + (x 1 : ℕ) := hx 1
  have e0 : x 0 = (0 : Fin 1) := Subsingleton.elim (α := Fin 1) _ _
  have e1 : x 1 = (0 : Fin 1) := Subsingleton.elim (α := Fin 1) _ _
  have h2 : (s : ℕ) = 0 + (x 2 : ℕ) := hx 2
  have h3 : (d : ℕ) = 0 + (x 3 : ℕ) := hx 3
  have hx' : x = ix4 (0 : Fin 1) (0 : Fin 1) s d := by
    funext a
    match a with
    | ⟨0, _⟩ => exact e0
    | ⟨1, _⟩ => exact e1
    | ⟨2, _⟩ => exact Fin.ext (by rw [zero_add] at h2; exact h2.symm)
    | ⟨3, _⟩ => exact Fin.ext (by rw [zero_add] at h3; exact h3.symm)
  obtain rfl : n = h := by rw [h1, e1]; rfl
  rw [hx', block_apply, flat_ld, flat_ld, flat_ld]

theorem result_apply (a0 a1 a2 : Vec Ideal S1x8x1024x64 .f32) (h : Fin 8) (s : Fin 1024) (d : Fin 64) :
    result a0 a1 a2 (ix4 0 h s d) = out (headOf a0 h) (headOf a1 h) (headOf a2 h) (ix2 s d) := by
  unfold result
  refine View.canon_eq_of_allAt _ _ _ (View.cover_of_tiled_head _ _ _ rfl _) ?_
  repeat first
    | exact View.allAt_nil _ _
    | refine View.allAt_cons_unit _ _ _ _ _ (piece_at a0 a1 a2 h s d _ _) ?_

end Cert.KernelIdeal.Head
-- ==== Proof.RefDefs.lean ====
/-
  What the reference computes, as functions of its three argument arrays: the basis each key is assigned
  to, the two memories summed by basis, the four selected bases of each query, their softmax weights, and
  the weighted sum of the four retrieved values. Each is the reference's own operations, named.
-/
module

public import proofs.«01_k».proof.Defs
public import proofs.«01_k».proof.Proof.Gen.ReferenceIdeal

@[expose] public section

noncomputable section

namespace Cert.ReferenceIdeal.Ref

open Idealize.ShloMosaic Cert.ReferenceIdeal Facts₀ Facts

variable {F : FTy → Type} [FloatOps F]

/-- The basis of each key: the position of the first greatest absolute value. -/
def assign (k : FVec F S1x8x1024x64 .f32) : IVec S1x8x1024 32 := fun j =>
  (Host.argReduce reducer_argmax_f32_i32 (Host.absf k) (iotaInDim S1x8x1024x64 32 3)
    (constant S_ .f32 0xFF800000#32) (constantI S_ 32 0#32) reducesTo_S1x8x1024x64_S1x8x1024_d3 h_S_ j).2

/-- The segment of each key: its basis plus 64 times its head, the keys of all heads in one line. -/
def segIds (a : IVec S1x8x1024 32) : IVec S8192x1 32 :=
  broadcastInDim S8192x1 ![0] bcast_S8192_S8192x1_0
    (shapeCast S8192
      (addi a (broadcastInDim S1x8x1024 ![0, 1, 2] bcast_S1x8x1_S1x8x1024_0_1_2
        (broadcastInDim S1x8x1 ![0, 1] bcast_S1x8_S1x8x1_0_1
          (muli (shapeCast S1x8 (iotaInDim S8 32 0) shapeCasts_S8_S1x8)
            (broadcastInDim S1x8 ![] bcast_S_S1x8 (constantI S_ 32 64#32))))))
      shapeCasts_S1x8x1024_S8192)

/-- The outer products `v_d * k_e`, one per key. -/
def outer (k v : FVec F S1x8x1024x64 .f32) : FVec F S1x8x1024x64x64 .f32 :=
  mulf
    (broadcastInDim S1x8x1024x64x64 ![0, 1, 2, 3, 4] bcast_S1x8x1024x64x1_S1x8x1024x64x64_0_1_2_3_4
      (broadcastInDim S1x8x1024x64x1 ![0, 1, 2, 3] bcast_S1x8x1024x64_S1x8x1024x64x1_0_1_2_3 v))
    (broadcastInDim S1x8x1024x64x64 ![0, 1, 2, 3, 4] bcast_S1x8x1024x1x64_S1x8x1024x64x64_0_1_2_3_4
      (broadcastInDim S1x8x1024x1x64 ![0, 1, 2, 4] bcast_S1x8x1024x64_S1x8x1024x1x64_0_1_2_4 k))

/-- The memory matrices: per head and basis, the sum of the outer products of the keys assigned to it. -/
def memM (k v : FVec F S1x8x1024x64 .f32) : FVec F S1x8x64x64x64 .f32 :=
  shapeCast S1x8x64x64x64
    (Host.scatterAdd scatter_S512x64x64_S8192x1_S8192x64x64_12_0_0_1
      (broadcastInDim S512x64x64 ![] bcast_S_S512x64x64 (constant S_ .f32 0x00000000#32))
      (segIds (assign k))
      (shapeCast S8192x64x64 (outer k v) shapeCasts_S1x8x1024x64x64_S8192x64x64))
    shapeCasts_S512x64x64_S1x8x64x64x64

/-- The normalisers: per head and basis, the sum of the keys assigned to it. -/
def memZ (k : FVec F S1x8x1024x64 .f32) : FVec F S1x8x64x64 .f32 :=
  shapeCast S1x8x64x64
    (Host.scatterAdd scatter_S512x64_S8192x1_S8192x64_1_0_0_1
      (broadcastInDim S512x64 ![] bcast_S_S512x64 (constant S_ .f32 0x00000000#32))
      (segIds (assign k))
      (shapeCast S8192x64 k shapeCasts_S1x8x1024x64_S8192x64))
    shapeCasts_S512x64_S1x8x64x64

/-- The four greatest absolute values of each query, greatest first. -/
def topVal (q : FVec F S1x8x1024x64 .f32) : FVec F S1x8x1024x4 .f32 :=
  (Host.topK S1x8x1024x4 3 (FloatOps.cmpfTotal .gt) (Host.absf q) sliceFits_S1x8x1024x64_S1x8x1024x4).1

/-- Their positions. -/
def topIdx (q : FVec F S1x8x1024x64 .f32) : IVec S1x8x1024x4 32 :=
  (Host.topK S1x8x1024x4 3 (FloatOps.cmpfTotal .gt) (Host.absf q) sliceFits_S1x8x1024x64_S1x8x1024x4).2

/-- The exponentials of four scores, the greatest of them subtracted first. -/
def expo (s : FVec F S1x8x1024x4 .f32) : FVec F S1x8x1024x4 .f32 :=
  Host.exp (subf s
    (broadcastInDim S1x8x1024x4 ![0, 1, 2, 3] bcast_S1x8x1024x1_S1x8x1024x4_0_1_2_3
      (broadcastInDim S1x8x1024x1 ![0, 1, 2] bcast_S1x8x1024_S1x8x1024x1_0_1_2
        (maximumf (broadcastInDim S1x8x1024 ![] bcast_S_S1x8x1024 (constant S_ .f32 0xFF800000#32))
          (Host.reduce FloatOps.maximumf s (constant S_ .f32 0xFF800000#32) reducesTo_S1x8x1024x4_S1x8x1024_d3 h_S_)))))

/-- The softmax of four scores. -/
def weights (s : FVec F S1x8x1024x4 .f32) : FVec F S1x8x1024x4 .f32 :=
  Host.divf (expo s)
    (broadcastInDim S1x8x1024x4 ![0, 1, 2, 3] bcast_S1x8x1024x1_S1x8x1024x4_0_1_2_3
      (broadcastInDim S1x8x1024x1 ![0, 1, 2] bcast_S1x8x1024_S1x8x1024x1_0_1_2
        (Host.reduceAdd (expo s) (constant S_ .f32 0x00000000#32) reducesTo_S1x8x1024x4_S1x8x1024_d3 h_S_)))

/-- An index counted from the end of its axis of `n` places when negative. -/
def wrap {s : Shape} (h : S_.BroadcastsInDim s (![] : Fin 0 → Fin s.rank)) (n : BitVec 32) (x : IVec s 32) : IVec s 32 :=
  select (cmpi .slt x (broadcastInDim s ![] h (constantI S_ 32 0#32)))
    (addi x (broadcastInDim s ![] h (constantI S_ 32 n))) x

/-- The (batch, head, basis) triples that one selection reads the memories at. -/
def starts (i : IVec S1x8x1024 32) : IVec S1x8x1024x3 32 :=
  concatenate S1x8x1024x3 3
    [⟨S1x8x1024x1, broadcastInDim S1x8x1024x1 ![0, 1, 2] bcast_S1x8x1024_S1x8x1024x1_0_1_2
        (broadcastInDim S1x8x1024 ![0, 1, 2] bcast_S1x1x1_S1x8x1024_0_1_2
          (wrap bcast_S_S1x1x1 1#32 (broadcastInDim S1x1x1 ![0] bcast_S1_S1x1x1_0 (iotaInDim S1 32 0))))⟩,
     ⟨S1x8x1024x1, broadcastInDim S1x8x1024x1 ![0, 1, 2] bcast_S1x8x1024_S1x8x1024x1_0_1_2
        (broadcastInDim S1x8x1024 ![0, 1, 2] bcast_S1x8x1_S1x8x1024_0_1_2
          (wrap bcast_S_S1x8x1 8#32 (broadcastInDim S1x8x1 ![1] bcast_S8_S1x8x1_1 (iotaInDim S8 32 0))))⟩,
     ⟨S1x8x1024x1, broadcastInDim S1x8x1024x1 ![0, 1, 2] bcast_S1x8x1024_S1x8x1024x1_0_1_2
        (wrap bcast_S_S1x8x1024 64#32 i)⟩]
    concatenates_S1x8x1024x1_S1x8x1024x1_S1x8x1024x1_S1x8x1024x3_d3

/-- The denominators of one selection: the selected normaliser times the query, plus the constant. -/
def den (Z : FVec F S1x8x64x64 .f32) (q : FVec F S1x8x1024x64 .f32) (i : IVec S1x8x1024 32) : FVec F S1x8x1024x1 .f32 :=
  addf
    (broadcastInDim S1x8x1024x1 ![0, 1, 2] bcast_S1x8x1024_S1x8x1024x1_0_1_2
      (Host.dotGeneral dot_S1x8x1024x64_S1x8x1024x64_S1x8x1024_3_3_n_n_012_012 none
        (Host.gather gather_S1x8x64x64_S1x8x1024x3_S1x8x1024x64_3_012_n_n_012_3_11164 Z (starts i)) q))
    (broadcastInDim S1x8x1024x1 ![] bcast_S_S1x8x1024x1 (constant S_ .f32 0x358637BD#32))

/-- The numerators of one selection: the selected memory matrix times the query. -/
def num (M : FVec F S1x8x64x64x64 .f32) (q : FVec F S1x8x1024x64 .f32) (i : IVec S1x8x1024 32) : FVec F S1x8x1024x64 .f32 :=
  Host.dotGeneral dot_S1x8x1024x64x64_S1x8x1024x64_S1x8x1024x64_4_3_3_n_012_012 none
    (Host.gather gather_S1x8x64x64x64_S1x8x1024x3_S1x8x1024x64x64_34_012_n_n_012_3_1116464 M (starts i)) q

/-- One selection's weighted value. -/
def term (M : FVec F S1x8x64x64x64 .f32) (Z : FVec F S1x8x64x64 .f32) (q : FVec F S1x8x1024x64 .f32)
    (i : IVec S1x8x1024 32) (w : FVec F S1x8x1024 .f32) : FVec F S1x8x1024x64 .f32 :=
  mulf
    (broadcastInDim S1x8x1024x64 ![0, 1, 2, 3] bcast_S1x8x1024x1_S1x8x1024x64_0_1_2_3
      (broadcastInDim S1x8x1024x1 ![0, 1, 2] bcast_S1x8x1024_S1x8x1024x1_0_1_2 w))
    (Host.divf (num M q i)
      (broadcastInDim S1x8x1024x64 ![0, 1, 2, 3] bcast_S1x8x1024x1_S1x8x1024x64_0_1_2_3 (den Z q i)))

/-- Column 0, 1, 2 or 3 of an array of four per query. -/
def col {α : Type} (x : S1x8x1024x4.Idx → α) : Fin 4 → S1x8x1024.Idx → α := ![
  shapeCast S1x8x1024 (extractStridedSlice S1x8x1024x1 ![0, 0, 0, 0] x slices_S1x8x1024x4_S1x8x1024x1_0_0_0_0) shapeCasts_S1x8x1024x1_S1x8x1024,
  shapeCast S1x8x1024 (extractStridedSlice S1x8x1024x1 ![0, 0, 0, 1] x slices_S1x8x1024x4_S1x8x1024x1_0_0_0_1) shapeCasts_S1x8x1024x1_S1x8x1024,
  shapeCast S1x8x1024 (extractStridedSlice S1x8x1024x1 ![0, 0, 0, 2] x slices_S1x8x1024x4_S1x8x1024x1_0_0_0_2) shapeCasts_S1x8x1024x1_S1x8x1024,
  shapeCast S1x8x1024 (extractStridedSlice S1x8x1024x1 ![0, 0, 0, 3] x slices_S1x8x1024x4_S1x8x1024x1_0_0_0_3) shapeCasts_S1x8x1024x1_S1x8x1024]

/-- Selection `r`'s weighted value, from the three arguments. -/
def round (k v q : FVec F S1x8x1024x64 .f32) (r : Fin 4) : FVec F S1x8x1024x64 .f32 :=
  term (memM k v) (memZ k) q (col (topIdx q) r) (col (weights (topVal q)) r)

/-- The reference's result: the four selections' weighted values summed from zero. -/
def out (k v q : FVec F S1x8x1024x64 .f32) : FVec F S1x8x1024x64 .f32 :=
  addf (addf (addf (addf (broadcastInDim S1x8x1024x64 ![] bcast_S_S1x8x1024x64 (constant S_ .f32 0x00000000#32))
    (round k v q 0)) (round k v q 1)) (round k v q 2)) (round k v q 3)

end Cert.ReferenceIdeal.Ref
-- ==== Proof.RefGather.lean ====
/-
  The reference's reads of the two memories: one selection reads, for a query, the rows of the basis it names.
-/
module

public import proofs.«01_k».proof.Proof.RefDefs
public import Idealize.ShloMosaic.Lib.Pointwise
public import Idealize.ShloMosaic.Lib.ValueIdxCoords

@[expose] public section

noncomputable section

namespace Cert.ReferenceIdeal.Ref

open Idealize.ShloMosaic Cert.ReferenceIdeal Facts₀ Facts

/-- A number that is not negative is not wrapped. -/
theorem select_slt_zero {x : BitVec 32} (y : BitVec 32) {n : ℕ} (hx : x = BitVec.ofNat 32 n) (hn : n < 2 ^ 31) :
    Scalar.select (IntOp.cmpi .slt x 0#32) y x = x := by
  have h : ¬ x.slt 0#32 := by
    subst hx
    simp [BitVec.slt, BitVec.toInt_eq_toNat_of_lt, Nat.mod_eq_of_lt (show n < 4294967296 by omega), show 2 * n < 4294967296 by omega]
  simp [Scalar.select, IntOp.cmpi, h]

theorem toInt_ofNat {n : ℕ} (hn : n < 2 ^ 31) : (BitVec.ofNat 32 n).toInt = (n : ℤ) := by
  rw [BitVec.toInt_eq_toNat_of_lt] <;> simp <;> omega

theorem starts_zero (x : IVec S1x8x1024 32) (h : Fin 8) (t : Fin 1024) : starts x (ix4 0 h t 0) = 0#32 := by
  unfold starts wrap
  pointwise
  decide

theorem starts_one (x : IVec S1x8x1024 32) (h : Fin 8) (t : Fin 1024) : starts x (ix4 0 h t 1) = BitVec.ofNat 32 h := by
  unfold starts wrap
  pointwise
  exact select_slt_zero _ rfl (by omega)

theorem starts_two (x : IVec S1x8x1024 32) (h : Fin 8) (t : Fin 1024) {i : ℕ} (hi : i < 64)
    (hx : x (ix3 0 h t) = BitVec.ofNat 32 i) : starts x (ix4 0 h t 2) = BitVec.ofNat 32 i := by
  unfold starts wrap
  pointwise
  exact (select_slt_zero _ hx (by omega)).trans hx

/-- A selection's read of the normalisers. -/
theorem gatherZ_apply {α : Type} (Z : S1x8x64x64.Idx → α) (x : IVec S1x8x1024 32) (h : Fin 8) (t : Fin 1024) (i e : Fin 64)
    (hx : x (ix3 0 h t) = BitVec.ofNat 32 i) :
    Host.gather gather_S1x8x64x64_S1x8x1024x3_S1x8x1024x64_3_012_n_n_012_3_11164
      Z (starts x) (ix4 0 h t e) = Z (ix4 0 h i e) := by
  set D := gather_S1x8x64x64_S1x8x1024x3_S1x8x1024x64_3_012_n_n_012_3_11164
  have s1 : D.start (ix4 0 h t e) (starts x) 1 = min (starts x (ix4 0 h t 1)).toInt.toNat 7 := by
    unfold GatherDims.start
    rw [dif_pos (by decide)]
    congr 4
    funext b
    fin_cases b <;> rfl
  have s2 : D.start (ix4 0 h t e) (starts x) 2 = min (starts x (ix4 0 h t 2)).toInt.toNat 63 := by
    unfold GatherDims.start
    rw [dif_pos (by decide)]
    congr 4
    funext b
    fin_cases b <;> rfl
  rw [starts_one, toInt_ofNat (by omega)] at s1
  rw [starts_two x h t i.2 hx, toInt_ofNat (by omega)] at s2
  have hv : ∀ a, (D.operandIdx (ix4 0 h t e) (starts x) a : ℕ)
      = D.start (ix4 0 h t e) (starts x) a + D.batchCoord (ix4 0 h t e) a + D.offCoord (ix4 0 h t e) a := fun a => rfl
  have e1 : (D.operandIdx (ix4 0 h t e) (starts x) 1 : ℕ) = h := by
    rw [hv, s1, D.batchCoord_eq_zero _ _ (by decide), D.offCoord_eq_zero _ _ (by decide)]; omega
  have e2 : (D.operandIdx (ix4 0 h t e) (starts x) 2 : ℕ) = i := by
    rw [hv, s2, D.batchCoord_eq_zero _ _ (by decide), D.offCoord_eq_zero _ _ (by decide)]; omega
  have e3 : (D.operandIdx (ix4 0 h t e) (starts x) 3 : ℕ) = e := by
    have s3 : D.start (ix4 0 h t e) (starts x) 3 = 0 := by unfold GatherDims.start; rw [dif_neg (by decide)]
    have o3 : D.offCoord (ix4 0 h t e) 3 = e := by unfold GatherDims.offCoord; rw [dif_pos (by decide)]; rfl
    rw [hv, s3, o3, D.batchCoord_eq_zero _ _ (by decide)]; omega
  show Z (D.operandIdx (ix4 0 h t e) (starts x)) = _
  congr 1
  funext a
  match a with
  | ⟨0, _⟩ => exact Subsingleton.elim (α := Fin 1) _ _
  | ⟨1, _⟩ => exact Fin.ext e1
  | ⟨2, _⟩ => exact Fin.ext e2
  | ⟨3, _⟩ => exact Fin.ext e3

/-- A selection's read of the memory matrices. -/
theorem gatherM_apply {α : Type} (M : S1x8x64x64x64.Idx → α) (x : IVec S1x8x1024 32) (h : Fin 8) (t : Fin 1024) (i d e : Fin 64)
    (hx : x (ix3 0 h t) = BitVec.ofNat 32 i) :
    Host.gather gather_S1x8x64x64x64_S1x8x1024x3_S1x8x1024x64x64_34_012_n_n_012_3_1116464
      M (starts x) (ix5 0 h t d e) = M (ix5 0 h i d e) := by
  set D := gather_S1x8x64x64x64_S1x8x1024x3_S1x8x1024x64x64_34_012_n_n_012_3_1116464
  have s1 : D.start (ix5 0 h t d e) (starts x) 1 = min (starts x (ix4 0 h t 1)).toInt.toNat 7 := by
    unfold GatherDims.start
    rw [dif_pos (by decide)]
    congr 4
    funext b
    fin_cases b <;> rfl
  have s2 : D.start (ix5 0 h t d e) (starts x) 2 = min (starts x (ix4 0 h t 2)).toInt.toNat 63 := by
    unfold GatherDims.start
    rw [dif_pos (by decide)]
    congr 4
    funext b
    fin_cases b <;> rfl
  rw [starts_one, toInt_ofNat (by omega)] at s1
  rw [starts_two x h t i.2 hx, toInt_ofNat (by omega)] at s2
  have hv : ∀ a, (D.operandIdx (ix5 0 h t d e) (starts x) a : ℕ)
      = D.start (ix5 0 h t d e) (starts x) a + D.batchCoord (ix5 0 h t d e) a + D.offCoord (ix5 0 h t d e) a := fun a => rfl
  have e1 : (D.operandIdx (ix5 0 h t d e) (starts x) 1 : ℕ) = h := by
    rw [hv, s1, D.batchCoord_eq_zero _ _ (by decide), D.offCoord_eq_zero _ _ (by decide)]; omega
  have e2 : (D.operandIdx (ix5 0 h t d e) (starts x) 2 : ℕ) = i := by
    rw [hv, s2, D.batchCoord_eq_zero _ _ (by decide), D.offCoord_eq_zero _ _ (by decide)]; omega
  have e3 : (D.operandIdx (ix5 0 h t d e) (starts x) 3 : ℕ) = d := by
    have s3 : D.start (ix5 0 h t d e) (starts x) 3 = 0 := by unfold GatherDims.start; rw [dif_neg (by decide)]
    have o3 : D.offCoord (ix5 0 h t d e) 3 = d := by unfold GatherDims.offCoord; rw [dif_pos (by decide)]; rfl
    rw [hv, s3, o3, D.batchCoord_eq_zero _ _ (by decide)]; omega
  have e4 : (D.operandIdx (ix5 0 h t d e) (starts x) 4 : ℕ) = e := by
    have s4 : D.start (ix5 0 h t d e) (starts x) 4 = 0 := by unfold GatherDims.start; rw [dif_neg (by decide)]
    have o4 : D.offCoord (ix5 0 h t d e) 4 = e := by unfold GatherDims.offCoord; rw [dif_pos (by decide)]; rfl
    rw [hv, s4, o4, D.batchCoord_eq_zero _ _ (by decide)]; omega
  show M (D.operandIdx (ix5 0 h t d e) (starts x)) = _
  congr 1
  funext a
  match a with
  | ⟨0, _⟩ => exact Subsingleton.elim (α := Fin 1) _ _
  | ⟨1, _⟩ => exact Fin.ext e1
  | ⟨2, _⟩ => exact Fin.ext e2
  | ⟨3, _⟩ => exact Fin.ext e3
  | ⟨4, _⟩ => exact Fin.ext e4

end Cert.ReferenceIdeal.Ref
-- ==== Proof.RefArgmax.lean ====
/-
  The reference's basis of a key: the first place of its greatest absolute value.
-/
module

public import proofs.«01_k».proof.Proof.RefGather
public import proofs.«01_k».proof.Proof.FirstMax
public import Idealize.ShloMosaic.PureOps.Ideal.Laws

@[expose] public section

noncomputable section

namespace Cert.ReferenceIdeal.Ref

open Idealize.ShloMosaic Cert.ReferenceIdeal Facts₀ Facts Cert.FirstMax

/-- Of two (value, place) pairs, `r` comes before `p` or is as good: its value is greater, or as great and its
    place not later. -/
def Beats (r p : EReal × BitVec 32) : Prop := p.1 < r.1 ∨ (p.1 = r.1 ∧ r.2.toInt ≤ p.2.toInt)

theorem Beats.refl (r : EReal × BitVec 32) : Beats r r := .inr ⟨rfl, le_rfl⟩

theorem Beats.trans {r p s : EReal × BitVec 32} (h : Beats r p) (h' : Beats p s) : Beats r s := by
  rcases h with h | ⟨h, l⟩ <;> rcases h' with h' | ⟨h', l'⟩
  · exact .inl (h'.trans h)
  · exact .inl (h' ▸ h)
  · exact .inl (h ▸ h')
  · exact .inr ⟨h'.trans h, l.trans l'⟩

/-- The reference's reducer, of two pairs: the one that beats the other. -/
theorem reducer_eq (a b : EReal × BitVec 32) :
    reducer_argmax_f32_i32 (F := Ideal) a b = a ∧ Beats a b ∨ reducer_argmax_f32_i32 (F := Ideal) a b = b ∧ Beats b a := by
  obtain ⟨a1, a2⟩ := a
  obtain ⟨b1, b2⟩ := b
  have hs : IntOp.cmpi .slt a2 b2 = BitVec.ofBool (a2.slt b2) := rfl
  simp only [reducer_argmax_f32_i32, Ideal.cmpf_def, Ideal.cmp, hs, Scalar.select, IntOp.ori, IntOp.andi, Beats]
  rcases lt_trichotomy a1 b1 with h | h | h
  · simp [h, h.not_gt, h.ne]
  · subst h
    by_cases hl : a2.slt b2
    · have : a2.toInt < b2.toInt := by simpa [BitVec.slt] using hl
      simp [hl, this.le]
    · have : b2.toInt ≤ a2.toInt := by simpa [BitVec.slt] using hl
      simp [hl, this]
  · simp [h, h.not_gt, h.ne']

/-- The reducer folded over a list of pairs from a first one: one of them that beats them all. -/
theorem foldl_reducer (L : List (EReal × BitVec 32)) (a : EReal × BitVec 32) :
    L.foldl (reducer_argmax_f32_i32 (F := Ideal)) a ∈ a :: L
      ∧ ∀ p ∈ a :: L, Beats (L.foldl (reducer_argmax_f32_i32 (F := Ideal)) a) p := by
  induction L generalizing a with
  | nil => exact ⟨by simp, fun p hp => by rw [List.mem_singleton.mp hp]; exact Beats.refl _⟩
  | cons b L ih =>
    obtain ⟨hm, hb⟩ := ih (reducer_argmax_f32_i32 (F := Ideal) a b)
    rw [List.foldl_cons]
    rcases reducer_eq a b with ⟨e, w⟩ | ⟨e, w⟩ <;> rw [e] at hm hb ⊢
    · refine ⟨?_, fun p hp => ?_⟩
      · rcases List.mem_cons.mp hm with h | h
        · rw [h]; simp
        · simp [h]
      · rcases List.mem_cons.mp hp with rfl | hp
        · exact hb _ (by simp)
        · rcases List.mem_cons.mp hp with rfl | hp
          · exact (hb a (by simp)).trans w
          · exact hb p (by simp [hp])
    · refine ⟨List.mem_cons_of_mem _ hm, fun p hp => ?_⟩
      rcases List.mem_cons.mp hp with rfl | hp
      · exact (hb b (by simp)).trans w
      · exact hb p hp

theorem drop_ix4 (a : Fin 1) (h : Fin 8) (t : Fin 1024) (e : Fin 64) :
    reducesTo_S1x8x1024x64_S1x8x1024_d3.drop (ix4 a h t e) = ix3 a h t := by
  funext b
  fin_cases b <;> rfl

/-- The absolute values of key `t` of head `h`. -/
def absKey (k : FVec Ideal S1x8x1024x64 .f32) (h : Fin 8) (t : Fin 1024) : Fin 64 → EReal :=
  fun e => max (k (ix4 0 h t e)) (-(k (ix4 0 h t e)))

theorem absKey_bot (k : FVec Ideal S1x8x1024x64 .f32) (h : Fin 8) (t : Fin 1024) (e : Fin 64) : ⊥ < absKey k h t e := by
  rw [absKey]
  generalize k (ix4 0 h t e) = x
  change EReal at x
  change ⊥ < max x (-x)
  induction x using EReal.rec with
  | bot => simp
  | top => simp
  | coe r => exact lt_max_of_lt_left (EReal.bot_lt_coe r)

/-- The basis of a key. -/
theorem assign_apply (k : FVec Ideal S1x8x1024x64 .f32) (h : Fin 8) (t : Fin 1024) :
    assign k (ix3 0 h t) = BitVec.ofNat 32 (first (absKey k h t)) := by
  unfold assign
  rw [Ideal.argReduce_eq_reduce2, Host.reduce2_eq_foldl_fiber]
  have hmem : ∀ p : EReal × BitVec 32, p ∈ Host.argReduceFiber (Host.absf k) (iotaInDim S1x8x1024x64 32 3)
      reducesTo_S1x8x1024x64_S1x8x1024_d3 (ix3 0 h t) ↔ ∃ e : Fin 64, p = (absKey k h t e, BitVec.ofNat 32 e) := by
    intro p
    simp only [Host.argReduceFiber, List.mem_map, List.mem_filter, List.mem_finRange, true_and, decide_eq_true_eq]
    constructor
    · rintro ⟨n, hn, rfl⟩
      generalize S1x8x1024x64.rowMajor.symm n = i at hn
      obtain ⟨a, b, c, e, rfl⟩ : ∃ (a : Fin 1) (b : Fin 8) (c : Fin 1024) (e : Fin 64), i = ix4 a b c e :=
        ⟨i 0, i 1, i 2, i 3, by funext x; fin_cases x <;> rfl⟩
      rw [drop_ix4] at hn
      have h1 : b = h := congrFun hn 1
      have h2 : c = t := congrFun hn 2
      obtain rfl : a = 0 := Subsingleton.elim _ _
      subst h1 h2
      exact ⟨e, rfl⟩
    · rintro ⟨e, rfl⟩
      refine ⟨S1x8x1024x64.rowMajor (ix4 0 h t e), ?_, ?_⟩
      · rw [Equiv.symm_apply_apply]; exact drop_ix4 0 h t e
      · rw [Equiv.symm_apply_apply]; rfl
  obtain ⟨hm, hb⟩ := foldl_reducer (Host.argReduceFiber (Host.absf k) (iotaInDim S1x8x1024x64 32 3)
    reducesTo_S1x8x1024x64_S1x8x1024_d3 (ix3 0 h t))
    (constant (F := Ideal) S_ .f32 0xFF800000#32 (Shape.Idx.first h_S_), constantI S_ 32 0#32 (Shape.Idx.first h_S_))
  refine Eq.trans (b := (List.foldl (reducer_argmax_f32_i32 (F := Ideal)) _ _).2) rfl ?_
  generalize List.foldl (reducer_argmax_f32_i32 (F := Ideal)) _ _ = r at hm hb
  have hbe : ∀ e, Beats r (absKey k h t e, BitVec.ofNat 32 e) := fun e =>
    hb _ (List.mem_cons_of_mem _ ((hmem _).mpr ⟨e, rfl⟩))
  rcases List.mem_cons.mp hm with rfl | hm
  · exfalso
    have hbot : constant (F := Ideal) S_ .f32 0xFF800000#32 (Shape.Idx.first h_S_) = (⊥ : EReal) := by
      show Ideal.ofBits .f32 0xFF800000#32 = ⊥
      simp [Ideal.ofBits, Ideal.ieee]
    have := absKey_bot k h t 0
    rcases hbe 0 with l | ⟨l, _⟩
    · exact (this.trans l).ne' hbot
    · exact this.ne' (l.trans hbot)
  · obtain ⟨e, rfl⟩ := (hmem r).mp hm
    have hf : IsFirst (absKey k h t) e := by
      refine ⟨fun j => ?_, fun j hj => ?_⟩
      · rcases hbe j with l | ⟨l, _⟩
        · exact l.le
        · exact l.le
      · rcases hbe j with l | ⟨_, l⟩
        · exact l
        · exfalso
          dsimp only at l
          rw [toInt_ofNat (by omega), toInt_ofNat (by omega)] at l
          omega
    rw [isFirst_iff.mp hf]

end Cert.ReferenceIdeal.Ref
-- ==== Proof.RefTopk.lean ====
/-
  The reference's four selections of a query: the places of its four greatest absolute values, greatest first
  and of equal ones the first first.
-/
module

public import proofs.«01_k».proof.Proof.RefDefs
public import proofs.«01_k».proof.Proof.FirstMax
public import Idealize.ShloMosaic.PureOps.Ideal.Laws
public import Idealize.ShloMosaic.Lib.SortPrefix
public import Idealize.ShloMosaic.Lib.ValueIdxCoords
public import Idealize.ShloMosaic.Lib.Pointwise

@[expose] public section

noncomputable section

namespace Cert.ReferenceIdeal.Ref

open Idealize.ShloMosaic Cert.ReferenceIdeal Facts₀ Facts Cert.FirstMax

/-- A stable sort asks its order only of a later element against an earlier one. -/
theorem stableSort_eq_of_later {n : ℕ} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The order by value alone sorts the places as the order by value and then by place does. -/
theorem sortedFrom_eq_of_later {n : ℕ} (R R' : Fin n → Fin n → Bool) (h : ∀ a b, a < b → R b a = R' b a) (i : Fin n) :
    sortedFrom R i = sortedFrom R' i := by
  have e : sortPositions n R = sortPositions n R' := stableSort_eq_of_later R R' _ (List.pairwise_lt_finRange n) h
  unfold sortedFrom
  exact List.get_of_eq e _

/-- The `r`-th place of a row sorted by greatest value first is its `r`-th selection. -/
theorem sortedFrom_eq_sel (w : Fin 64 → EReal) (hw : ∀ j, ⊥ < w j) (r : Fin 4) :
    sortedFrom (fun a b => decide (w b < w a)) (r.castLE (by omega : 4 ≤ 64)) = sel w r := by
  classical
  rw [sortedFrom_eq_of_later _ (fun a b => decide (w b < w a) || (decide (w a = w b) && decide (a < b)))
    (fun a b h => by simp [h.not_gt])]
  have hB := StrictTotalBefore.of_key_then_position (fun x y : EReal => decide (y < x)) w (by simp)
    (fun a b c h h' => by simp only [decide_eq_true_eq] at h h' ⊢; exact h'.trans h)
    (fun a b => by
      simp only [decide_eq_true_eq]
      rcases lt_trichotomy a b with h | h | h
      · exact .inr (.inr h)
      · exact .inr (.inl h)
      · exact .inl h)
  have key : ∀ (i : Fin 4) (p : Fin 64), (∀ j : Fin 4, j ≤ i → p ≠ sel w j) →
      (decide (w (sel w i) < w p) || (decide (w p = w (sel w i)) && decide (p < sel w i))) = false := by
    intro i p hp
    rcases sel_before hw (by omega : (i : ℕ) < 64) (j := p) (fun r' hr' => hp ⟨r', by omega⟩ hr') with h | ⟨h, h'⟩
    · simp [h.not_gt, h.ne]
    · simp [h, h'.not_gt]
  have hinj : Function.Injective fun j : Fin 4 => sel w j := fun i j h => Fin.ext (sel_injective hw (by omega) (by omega) h)
  refine hB.sortedFrom_eq_of_prefix (by omega) (fun j : Fin 4 => sel w j) hinj (fun i j hij => ?_) (fun i p hp => ?_) r
  · exact key i (sel w j) fun j' hj' e => by
      have := hinj e
      omega
  · exact key i p fun j _ e => hp j e.symm

/-- The absolute values of query `s` of head `h`. -/
def absQuery (q : FVec Ideal S1x8x1024x64 .f32) (h : Fin 8) (s : Fin 1024) : Fin 64 → EReal :=
  fun e => max (q (ix4 0 h s e)) (-(q (ix4 0 h s e)))

theorem along_ix4 (h : Fin 8) (s : Fin 1024) (e e' : Fin 64) :
    Shape.Idx.along (s := S1x8x1024x64) (ix4 0 h s e) 3 e' = ix4 0 h s e' := by
  funext b
  fin_cases b <;> rfl

theorem absQuery_bot (q : FVec Ideal S1x8x1024x64 .f32) (h : Fin 8) (t : Fin 1024) (e : Fin 64) : ⊥ < absQuery q h t e := by
  rw [absQuery]
  generalize q (ix4 0 h t e) = x
  change EReal at x
  change ⊥ < max x (-x)
  induction x using EReal.rec with
  | bot => simp
  | top => simp
  | coe r => exact lt_max_of_lt_left (EReal.bot_lt_coe r)

/-- The place that one selection reads its query at. -/
theorem place_eq (q : FVec Ideal S1x8x1024x64 .f32) (h : Fin 8) (s : Fin 1024) (r : Fin 4) :
    sortedFrom (fun k k' => FloatOps.cmpfTotal (F := Ideal) (φ := .f32) .gt (absQuery q h s k) (absQuery q h s k') == 1#1)
      (r.castLE (by omega : 4 ≤ 64)) = sel (absQuery q h s) r := by
  rw [← sortedFrom_eq_sel _ (absQuery_bot q h s)]
  congr 1
  funext k k'
  rw [Ideal.cmpfTotal_def]
  show (BitVec.ofBool _ == 1#1) = _
  by_cases hl : absQuery q h s k' < absQuery q h s k <;> simp [hl, Ideal.cmp, CmpDirection.ordered]

/-- Two arrays sorted along their last axis of 64 by the first, at a place. -/
theorem sort2_apply (cmp : EReal × BitVec 32 → EReal × BitVec 32 → BitVec 1) (x : S1x8x1024x64.Idx → EReal)
    (y : S1x8x1024x64.Idx → BitVec 32) (h : Fin 8) (s : Fin 1024) (e : Fin 64) :
    let π := sortedFrom (fun k k' => cmp (x (ix4 0 h s k), y (ix4 0 h s k)) (x (ix4 0 h s k'), y (ix4 0 h s k')) == 1#1) e
    (Host.sort2 S1x8x1024x64 3 cmp x y).1 (ix4 0 h s e) = x (ix4 0 h s π)
      ∧ (Host.sort2 S1x8x1024x64 3 cmp x y).2 (ix4 0 h s e) = y (ix4 0 h s π) := by
  intro π
  unfold Host.sort2
  rw [dif_pos (by decide : 3 < S1x8x1024x64.rank)]
  refine ⟨congrArg x ?_, congrArg y ?_⟩ <;>
  · refine (along_ix4 h s e _).trans ?_
    simp only [π]
    congr 2
    funext k k'
    rw [← along_ix4 h s e k, ← along_ix4 h s e k']
    rfl

theorem slice_ix4 {α : Type} (x : S1x8x1024x64.Idx → α) (h : Fin 8) (s : Fin 1024) (r : Fin 4) :
    extractStridedSlice S1x8x1024x4 (fun _ => 0) x sliceFits_S1x8x1024x64_S1x8x1024x4 (ix4 0 h s r)
      = x (ix4 0 h s (r.castLE (by omega : 4 ≤ 64))) := by
  unfold extractStridedSlice
  congr 1
  funext b
  fin_cases b <;> exact Fin.ext (Nat.zero_add _)

/-- The selected bases. -/
theorem topIdx_apply (q : FVec Ideal S1x8x1024x64 .f32) (h : Fin 8) (s : Fin 1024) (r : Fin 4) :
    topIdx q (ix4 0 h s r) = BitVec.ofNat 32 (sel (absQuery q h s) r) := by
  rw [← place_eq]
  unfold topIdx Host.topK
  dsimp only
  refine (slice_ix4 _ h s r).trans ?_
  exact (sort2_apply _ _ _ h s _).2

/-- The selected scores. -/
theorem topVal_apply (q : FVec Ideal S1x8x1024x64 .f32) (h : Fin 8) (s : Fin 1024) (r : Fin 4) :
    topVal q (ix4 0 h s r) = absQuery q h s (sel (absQuery q h s) r) := by
  rw [← place_eq]
  unfold topVal Host.topK
  dsimp only
  refine (slice_ix4 _ h s r).trans ?_
  exact (sort2_apply _ _ _ h s _).1

end Cert.ReferenceIdeal.Ref
-- ==== Proof.RefScatter.lean ====
/-
  The reference's two memories, at one element: the sum over the head's keys that the basis was assigned. `A` is
  the basis of each key, head by head.
-/
module

public import proofs.«01_k».proof.Proof.RefGather
public import proofs.«01_k».proof.Proof.Reals
public import Idealize.ShloMosaic.Lib.Routing.OpsPair

@[expose] public section

noncomputable section

namespace Cert.ReferenceIdeal.Ref

open Idealize.ShloMosaic Cert.ReferenceIdeal Facts₀ Facts

/-- The line number of key `t` of head `h`. -/
def line (h : Fin 8) (t : Fin 1024) : Fin 8192 := ⟨h * 1024 + t, by omega⟩

theorem exists_line (n : Fin 8192) : ∃ h t, n = line h t :=
  ⟨⟨n / 1024, by omega⟩, ⟨n % 1024, by omega⟩, Fin.ext (by simp only [line]; omega)⟩

theorem line_inj {h h' : Fin 8} {t t' : Fin 1024} (e : line h t = line h' t') : h = h' ∧ t = t' := by
  have := congrArg Fin.val e
  simp only [line] at this
  exact ⟨Fin.ext (by omega), Fin.ext (by omega)⟩

/-- A key's segment is its basis plus 64 times its head. -/
theorem segIds_apply (a : IVec S1x8x1024 32) (h : Fin 8) (t : Fin 1024) (i : Fin 64)
    (ha : a (ix3 0 h t) = BitVec.ofNat 32 i) : (segIds a (ix2 (line h t) 0)).toInt = ((h * 64 + i : ℕ) : ℤ) := by
  have e : segIds a (ix2 (line h t) 0) = BitVec.ofNat 32 (h * 64 + i) := by
    unfold segIds line
    pointwise
    rw [ha]
    show BitVec.ofNat 32 i + BitVec.ofNat 32 h * 64#32 = _
    apply BitVec.eq_of_toNat_eq
    simp only [BitVec.toNat_add, BitVec.toNat_mul, BitVec.toNat_ofNat]
    omega
  rw [e, toInt_ofNat (by omega)]

/-- Where a key lands among the normalisers. -/
theorem landsZ (idx : IVec S8192x1 32) (n : Fin 8192) (e e' : Fin 64) (m : Fin 512) :
    scatter_S512x64_S8192x1_S8192x64_1_0_0_1.resultIdx? (ix2 n e) idx = some (ix2 m e')
      ↔ (idx (ix2 n 0)).toInt = (m : ℕ) ∧ e = e' := by
  set D := scatter_S512x64_S8192x1_S8192x64_1_0_0_1
  have s0 : D.start (ix2 n e) idx 0 = (idx (ix2 n 0)).toInt := by
    unfold ScatterDims.start
    rw [dif_pos (by decide)]
    congr 2
    funext b
    fin_cases b <;> rfl
  have s1 : D.start (ix2 n e) idx 1 = 0 := by
    unfold ScatterDims.start
    rw [dif_neg (by decide)]
  have w0 : D.window (ix2 n e) 0 = 0 := by unfold ScatterDims.window; rw [dif_neg (by decide)]
  have w1 : D.window (ix2 n e) 1 = e := by unfold ScatterDims.window; rw [dif_pos (by decide)]; rfl
  rw [Routing.resultIdx?_eq_some]
  constructor
  · intro q
    have q0 : D.start (ix2 n e) idx 0 + (D.window (ix2 n e) 0 : ℤ) = (m : ℕ) := q 0
    have q1 : D.start (ix2 n e) idx 1 + (D.window (ix2 n e) 1 : ℤ) = (e' : ℕ) := q 1
    rw [s0, w0] at q0
    rw [s1, w1] at q1
    exact ⟨by omega, Fin.ext (by omega)⟩
  · rintro ⟨q, rfl⟩ a
    match a with
    | ⟨0, _⟩ =>
      show D.start (ix2 n e) idx 0 + (D.window (ix2 n e) 0 : ℤ) = (m : ℕ)
      rw [s0, w0]; omega
    | ⟨1, _⟩ =>
      show D.start (ix2 n e) idx 1 + (D.window (ix2 n e) 1 : ℤ) = (e : ℕ)
      rw [s1, w1]; omega

/-- Where a key lands among the memory matrices. -/
theorem landsM (idx : IVec S8192x1 32) (n : Fin 8192) (d e d' e' : Fin 64) (m : Fin 512) :
    scatter_S512x64x64_S8192x1_S8192x64x64_12_0_0_1.resultIdx? (ix3 n d e) idx = some (ix3 m d' e')
      ↔ (idx (ix2 n 0)).toInt = (m : ℕ) ∧ d = d' ∧ e = e' := by
  set D := scatter_S512x64x64_S8192x1_S8192x64x64_12_0_0_1
  have s0 : D.start (ix3 n d e) idx 0 = (idx (ix2 n 0)).toInt := by
    unfold ScatterDims.start
    rw [dif_pos (by decide)]
    congr 2
    funext b
    fin_cases b <;> rfl
  have s1 : D.start (ix3 n d e) idx 1 = 0 := by
    unfold ScatterDims.start
    rw [dif_neg (by decide)]
  have s2 : D.start (ix3 n d e) idx 2 = 0 := by
    unfold ScatterDims.start
    rw [dif_neg (by decide)]
  have w0 : D.window (ix3 n d e) 0 = 0 := by unfold ScatterDims.window; rw [dif_neg (by decide)]
  have w1 : D.window (ix3 n d e) 1 = d := by unfold ScatterDims.window; rw [dif_pos (by decide)]; rfl
  have w2 : D.window (ix3 n d e) 2 = e := by unfold ScatterDims.window; rw [dif_pos (by decide)]; rfl
  rw [Routing.resultIdx?_eq_some]
  constructor
  · intro q
    have q0 : D.start (ix3 n d e) idx 0 + (D.window (ix3 n d e) 0 : ℤ) = (m : ℕ) := q 0
    have q1 : D.start (ix3 n d e) idx 1 + (D.window (ix3 n d e) 1 : ℤ) = (d' : ℕ) := q 1
    have q2 : D.start (ix3 n d e) idx 2 + (D.window (ix3 n d e) 2 : ℤ) = (e' : ℕ) := q 2
    rw [s0, w0] at q0
    rw [s1, w1] at q1
    rw [s2, w2] at q2
    exact ⟨by omega, Fin.ext (by omega), Fin.ext (by omega)⟩
  · rintro ⟨q, rfl, rfl⟩ a
    match a with
    | ⟨0, _⟩ =>
      show D.start (ix3 n d e) idx 0 + (D.window (ix3 n d e) 0 : ℤ) = (m : ℕ)
      rw [s0, w0]; omega
    | ⟨1, _⟩ =>
      show D.start (ix3 n d e) idx 1 + (D.window (ix3 n d e) 1 : ℤ) = (d : ℕ)
      rw [s1, w1]; omega
    | ⟨2, _⟩ =>
      show D.start (ix3 n d e) idx 2 + (D.window (ix3 n d e) 2 : ℤ) = (e : ℕ)
      rw [s2, w2]; omega

variable {A : Fin 8 → Fin 1024 → Fin 64}

/-- A key lands at basis `i` of head `h` where the key is of head `h` and assigned to `i`. -/
theorem segIds_eq_iff {a : IVec S1x8x1024 32} (ha : ∀ h t, a (ix3 0 h t) = BitVec.ofNat 32 (A h t)) (h h' : Fin 8)
    (t : Fin 1024) (i : Fin 64) :
    (segIds a (ix2 (line h' t) 0)).toInt = ((h * 64 + i : ℕ) : ℤ) ↔ h' = h ∧ A h t = i := by
  rw [segIds_apply a h' t (A h' t) (ha h' t)]
  constructor
  · intro e
    obtain rfl : h' = h := Fin.ext (by omega)
    exact ⟨rfl, Fin.ext (by omega)⟩
  · rintro ⟨rfl, rfl⟩; rfl

theorem keyZ_apply (k : FVec Ideal S1x8x1024x64 .f32) (h : Fin 8) (t : Fin 1024) (e : Fin 64) :
    shapeCast S8192x64 k shapeCasts_S1x8x1024x64_S8192x64 (ix2 (line h t) e) = k (ix4 0 h t e) := by
  unfold line
  pointwise

theorem keyM_apply (k v : FVec Ideal S1x8x1024x64 .f32) (h : Fin 8) (t : Fin 1024) (d e : Fin 64) :
    shapeCast S8192x64x64 (outer k v) shapeCasts_S1x8x1024x64x64_S8192x64x64 (ix3 (line h t) d e)
      = v (ix4 0 h t d) * k (ix4 0 h t e) := by
  unfold line outer
  pointwise

/-- The normaliser of basis `i` of head `h`. -/
theorem memZ_apply (k : FVec Ideal S1x8x1024x64 .f32) (ha : ∀ h t, assign k (ix3 0 h t) = BitVec.ofNat 32 (A h t))
    (h : Fin 8) (i e : Fin 64) :
    memZ k (ix4 0 h i e) = ∑ t, if A h t = i then k (ix4 0 h t e) else 0 := by
  unfold memZ
  pointwise
  show Ideal.hostScatterAdd _ _ _ _ _ = _
  rw [Ideal.hostScatterAdd]
  have z : broadcastInDim S512x64 ![] bcast_S_S512x64 (constant (F := Ideal) S_ .f32 0x00000000#32)
      (ix2 (⟨h * 64 + i, by omega⟩ : Fin 512) e) = 0 := by pointwise
  rw [z, zero_add, ← Finset.sum_filter]
  symm
  refine Finset.sum_bij (fun t _ => (ix2 (line h t) e : S8192x64.Idx)) ?_ ?_ ?_ ?_
  · intro t ht
    exact Finset.mem_filter.mpr ⟨Finset.mem_univ _, (landsZ _ _ _ _ _).mpr
      ⟨(segIds_eq_iff ha h h t i).mpr ⟨rfl, (Finset.mem_filter.mp ht).2⟩, rfl⟩⟩
  · intro t _ t' _ q
    exact (line_inj (congrFun q 0)).2
  · intro j hj
    obtain ⟨n, e', rfl⟩ : ∃ (n : Fin 8192) (e' : Fin 64), j = ix2 n e' := ⟨j 0, j 1, by funext a; fin_cases a <;> rfl⟩
    obtain ⟨h', t, rfl⟩ := exists_line n
    obtain ⟨q, rfl⟩ := (landsZ _ _ _ _ _).mp (Finset.mem_filter.mp hj).2
    obtain ⟨rfl, q⟩ := (segIds_eq_iff ha h h' t i).mp q
    exact ⟨t, Finset.mem_filter.mpr ⟨Finset.mem_univ _, q⟩, rfl⟩
  · intro t _
    exact (keyZ_apply k h t e).symm

/-- The memory matrix of basis `i` of head `h`. -/
theorem memM_apply (k v : FVec Ideal S1x8x1024x64 .f32) (ha : ∀ h t, assign k (ix3 0 h t) = BitVec.ofNat 32 (A h t))
    (h : Fin 8) (i d e : Fin 64) :
    memM k v (ix5 0 h i d e) = ∑ t, if A h t = i then v (ix4 0 h t d) * k (ix4 0 h t e) else 0 := by
  unfold memM
  pointwise
  show Ideal.hostScatterAdd _ _ _ _ _ = _
  rw [Ideal.hostScatterAdd]
  have z : broadcastInDim S512x64x64 ![] bcast_S_S512x64x64 (constant (F := Ideal) S_ .f32 0x00000000#32)
      (ix3 (⟨h * 64 + i, by omega⟩ : Fin 512) d e) = 0 := by pointwise
  rw [z, zero_add, ← Finset.sum_filter]
  symm
  refine Finset.sum_bij (fun t _ => (ix3 (line h t) d e : S8192x64x64.Idx)) ?_ ?_ ?_ ?_
  · intro t ht
    exact Finset.mem_filter.mpr ⟨Finset.mem_univ _, (landsM _ _ _ _ _ _ _).mpr
      ⟨(segIds_eq_iff ha h h t i).mpr ⟨rfl, (Finset.mem_filter.mp ht).2⟩, rfl, rfl⟩⟩
  · intro t _ t' _ q
    exact (line_inj (congrFun q 0)).2
  · intro j hj
    obtain ⟨n, d', e', rfl⟩ : ∃ (n : Fin 8192) (d' e' : Fin 64), j = ix3 n d' e' :=
      ⟨j 0, j 1, j 2, by funext a; fin_cases a <;> rfl⟩
    obtain ⟨h', t, rfl⟩ := exists_line n
    obtain ⟨q, rfl, rfl⟩ := (landsM _ _ _ _ _ _ _).mp (Finset.mem_filter.mp hj).2
    obtain ⟨rfl, q⟩ := (segIds_eq_iff ha h h' t i).mp q
    exact ⟨t, Finset.mem_filter.mpr ⟨Finset.mem_univ _, q⟩, rfl⟩
  · intro t _
    exact (keyM_apply k v h t d e).symm

end Cert.ReferenceIdeal.Ref
-- ==== Proof.RefValue.lean ====
/-
  The reference's result at one element, where the arguments are real: head `h`'s result over the real numbers,
  summed round by round.
-/
module

public import proofs.«01_k».proof.Proof.RefArgmax
public import proofs.«01_k».proof.Proof.RefTopk
public import proofs.«01_k».proof.Proof.RefScatter
public import proofs.«01_k».proof.Proof.Spec
public import proofs.«01_k».proof.Proof.Reals

@[expose] public section

noncomputable section

namespace Cert.ReferenceIdeal.Ref

open Idealize.ShloMosaic Cert.ReferenceIdeal Facts₀ Facts Cert.FirstMax Cert.Reals

/-- An array of real entries. -/
def Real4 (x : FVec Ideal S1x8x1024x64 .f32) (X : Fin 8 → Fin 1024 → Fin 64 → ℝ) : Prop :=
  ∀ h t e, x (ix4 0 h t e) = (X h t e : EReal)

variable {k v q : FVec Ideal S1x8x1024x64 .f32} {K V Q : Fin 8 → Fin 1024 → Fin 64 → ℝ}

theorem col_apply {α : Type} (x : S1x8x1024x4.Idx → α) (r : Fin 4) (h : Fin 8) (t : Fin 1024) :
    col x r (ix3 0 h t) = x (ix4 0 h t r) := by
  match r with
  | 0 =>
    show shapeCast S1x8x1024 (extractStridedSlice S1x8x1024x1 ![0, 0, 0, 0] x slices_S1x8x1024x4_S1x8x1024x1_0_0_0_0) shapeCasts_S1x8x1024x1_S1x8x1024 (ix3 0 h t) = _
    pointwise
  | 1 =>
    show shapeCast S1x8x1024 (extractStridedSlice S1x8x1024x1 ![0, 0, 0, 1] x slices_S1x8x1024x4_S1x8x1024x1_0_0_0_1) shapeCasts_S1x8x1024x1_S1x8x1024 (ix3 0 h t) = _
    pointwise
  | 2 =>
    show shapeCast S1x8x1024 (extractStridedSlice S1x8x1024x1 ![0, 0, 0, 2] x slices_S1x8x1024x4_S1x8x1024x1_0_0_0_2) shapeCasts_S1x8x1024x1_S1x8x1024 (ix3 0 h t) = _
    pointwise
  | 3 =>
    show shapeCast S1x8x1024 (extractStridedSlice S1x8x1024x1 ![0, 0, 0, 3] x slices_S1x8x1024x4_S1x8x1024x1_0_0_0_3) shapeCasts_S1x8x1024x1_S1x8x1024 (ix3 0 h t) = _
    pointwise

theorem absKey_real (hk : Real4 k K) (h : Fin 8) (t : Fin 1024) : absKey k h t = Cert.Spec.absRow (K h) t := by
  funext e
  rw [absKey, hk, max_neg]; rfl

theorem absQuery_real (hq : Real4 q Q) (h : Fin 8) (s : Fin 1024) : absQuery q h s = Cert.Spec.absRow (Q h) s := by
  funext e
  rw [absQuery, hq, max_neg]; rfl

theorem assign_real (hk : Real4 k K) (h : Fin 8) (t : Fin 1024) :
    assign k (ix3 0 h t) = BitVec.ofNat 32 (Cert.Spec.basis (K h) t) := by
  rw [assign_apply, absKey_real hk]; rfl

theorem topIdx_real (hq : Real4 q Q) (h : Fin 8) (s : Fin 1024) (r : Fin 4) :
    topIdx q (ix4 0 h s r) = BitVec.ofNat 32 (Cert.Spec.pickOf (Q h) s r) := by
  rw [topIdx_apply, absQuery_real hq]; rfl

theorem topVal_real (hq : Real4 q Q) (h : Fin 8) (s : Fin 1024) (r : Fin 4) :
    topVal q (ix4 0 h s r) = (Cert.Spec.score (Q h) s r : EReal) := by
  rw [topVal_apply, absQuery_real hq]; rfl

theorem memZ_real (hk : Real4 k K) (h : Fin 8) (i e : Fin 64) :
    memZ k (ix4 0 h i e) = (Cert.Spec.norm (K h) i e : EReal) := by
  rw [memZ_apply k (A := fun h t => Cert.Spec.basis (K h) t) (assign_real hk)]
  exact sum_eq _ fun t _ => by rw [hk]; split_ifs <;> rfl

theorem memM_real (hk : Real4 k K) (hv : Real4 v V) (h : Fin 8) (i d e : Fin 64) :
    memM k v (ix5 0 h i d e) = (Cert.Spec.mem (K h) (V h) i d e : EReal) := by
  rw [memM_apply k v (A := fun h t => Cert.Spec.basis (K h) t) (assign_real hk)]
  exact sum_eq _ fun t _ => by rw [hk, hv, ← EReal.coe_mul]; split_ifs <;> rfl

/-- The first selection's score is the greatest. -/
theorem score_le (Q : Fin 1024 → Fin 64 → ℝ) (s : Fin 1024) (r : ℕ) : Cert.Spec.score Q s r ≤ Cert.Spec.score Q s 0 := by
  have h : Cert.Spec.absRow Q s (Cert.Spec.pickOf Q s r) ≤ Cert.Spec.absRow Q s (Cert.Spec.pickOf Q s 0) := le_sel_zero _
  exact EReal.coe_le_coe_iff.mp h

theorem expo_real (hq : Real4 q Q) (h : Fin 8) (s : Fin 1024) (r : Fin 4) :
    expo (topVal q) (ix4 0 h s r) = (Cert.Spec.ex (Q h) s r : EReal) := by
  have e : expo (topVal q) (ix4 0 h s r) = Ideal.exp (topVal q (ix4 0 h s r) - max (Ideal.ofBits .f32 4286578688#32)
      (Finset.fold max (Ideal.ofBits .f32 4286578688#32) (fun x => topVal q (ix4 0 h s x)) Finset.univ)) := by
    unfold expo; pointwise
  have m : max (Ideal.ofBits .f32 4286578688#32)
      (Finset.fold max (Ideal.ofBits .f32 4286578688#32) (fun x => topVal q (ix4 0 h s x)) Finset.univ)
      = (Cert.Spec.score (Q h) s 0 : EReal) := by
    rw [negInf_eq, max_eq_right bot_le]
    refine le_antisymm ((Finset.fold_max_le _).mpr ⟨bot_le, fun x _ => ?_⟩) ((Finset.le_fold_max _).mpr (.inr ⟨0, Finset.mem_univ _, ?_⟩))
    · rw [topVal_real hq]; exact EReal.coe_le_coe_iff.mpr (score_le _ _ _)
    · rw [topVal_real hq]; rfl
  rw [e, m, topVal_real hq, ← EReal.coe_sub]; rfl

theorem weights_real (hq : Real4 q Q) (h : Fin 8) (s : Fin 1024) (r : Fin 4) :
    weights (topVal q) (ix4 0 h s r) = (Cert.Spec.weight (Q h) s r : EReal) := by
  have e : weights (topVal q) (ix4 0 h s r)
      = Ideal.div (expo (topVal q) (ix4 0 h s r)) (∑ x, expo (topVal q) (ix4 0 h s x)) := by
    unfold weights; pointwise
  have hs : ∑ x, expo (topVal q) (ix4 0 h s x) = (Cert.Spec.exSum (Q h) s : EReal) := by
    rw [Fin.sum_univ_four]
    simp only [expo_real hq, ← EReal.coe_add]; rfl
  rw [e, hs, expo_real hq, div_eq (Cert.Spec.exSum_pos (Q h) s).ne']; rfl

/-- A selection's denominator. -/
theorem den_real (hk : Real4 k K) (hq : Real4 q Q) (h : Fin 8) (s : Fin 1024) (r : Fin 4) :
    den (memZ k) q (col (topIdx q) r) (ix4 0 h s 0) = (Cert.Spec.den (K h) (Q h) eps s r : EReal) := by
  have e : den (memZ k) q (col (topIdx q) r) (ix4 0 h s 0)
      = ∑ e, Host.gather gather_S1x8x64x64_S1x8x1024x3_S1x8x1024x64_3_012_n_n_012_3_11164 (memZ k)
          (starts (col (topIdx q) r)) (ix4 0 h s e) * q (ix4 0 h s e) + Ideal.ofBits FTy.f32 897988541#32 := by
    unfold den; pointwise
  rw [e, eps_coe, sum_eq Finset.univ (g := fun e => Q h s e * Cert.Spec.norm (K h) (Cert.Spec.pickOf (Q h) s r) e), ← EReal.coe_add]
  · rfl
  · intro e _
    rw [gatherZ_apply (memZ k) _ h s (Cert.Spec.pickOf (Q h) s r) e ((col_apply _ r h s).trans (topIdx_real hq h s r)),
      memZ_real hk, hq, ← EReal.coe_mul, mul_comm]

/-- A selection's numerator. -/
theorem num_real (hk : Real4 k K) (hv : Real4 v V) (hq : Real4 q Q) (h : Fin 8) (s : Fin 1024) (r : Fin 4) (d : Fin 64) :
    num (memM k v) q (col (topIdx q) r) (ix4 0 h s d)
      = ((∑ e, Cert.Spec.mem (K h) (V h) (Cert.Spec.pickOf (Q h) s r) d e * Q h s e : ℝ) : EReal) := by
  have e : num (memM k v) q (col (topIdx q) r) (ix4 0 h s d)
      = ∑ e, Host.gather gather_S1x8x64x64x64_S1x8x1024x3_S1x8x1024x64x64_34_012_n_n_012_3_1116464 (memM k v)
          (starts (col (topIdx q) r)) (ix5 0 h s d e) * q (ix4 0 h s e) := by
    unfold num; pointwise
  rw [e]
  refine sum_eq Finset.univ fun e _ => ?_
  rw [gatherM_apply (memM k v) _ h s (Cert.Spec.pickOf (Q h) s r) d e ((col_apply _ r h s).trans (topIdx_real hq h s r)),
    memM_real hk hv, hq, ← EReal.coe_mul]

/-- A selection's weighted value. -/
theorem round_real (hk : Real4 k K) (hv : Real4 v V) (hq : Real4 q Q) (h : Fin 8) (s : Fin 1024) (r : Fin 4) (d : Fin 64)
    (hd : Cert.Spec.den (K h) (Q h) eps s r ≠ 0) :
    round k v q r (ix4 0 h s d) = (Cert.Spec.roundVal (K h) (V h) (Q h) eps s r d : EReal) := by
  have e : ∀ (M) (Z) (i : IVec S1x8x1024 32) (w : FVec Ideal S1x8x1024 .f32), term M Z q i w (ix4 0 h s d)
      = w (ix3 0 h s) * Ideal.div (num M q i (ix4 0 h s d)) (den Z q i (ix4 0 h s 0)) := by
    intro M Z i w
    unfold term; pointwise
  rw [round, e, num_real hk hv hq, den_real hk hq, col_apply, weights_real hq, div_eq hd, ← EReal.coe_mul]
  rfl

/-- The reference's result. -/
theorem out_real (hk : Real4 k K) (hv : Real4 v V) (hq : Real4 q Q) (h : Fin 8) (s : Fin 1024) (d : Fin 64)
    (hd : ∀ r : Fin 4, Cert.Spec.den (K h) (Q h) eps s r ≠ 0) :
    out k v q (ix4 0 h s d) = (Cert.Spec.byRound (K h) (V h) (Q h) eps s d : EReal) := by
  have e : out k v q (ix4 0 h s d) = Ideal.ofBits .f32 0x00000000#32 + round k v q 0 (ix4 0 h s d) + round k v q 1 (ix4 0 h s d)
      + round k v q 2 (ix4 0 h s d) + round k v q 3 (ix4 0 h s d) := rfl
  rw [e, round_real hk hv hq h s 0 d (hd 0), round_real hk hv hq h s 1 d (hd 1), round_real hk hv hq h s 2 d (hd 2),
    round_real hk hv hq h s 3 d (hd 3), zero_eq, zero_add]
  simp only [← EReal.coe_add]
  rfl

end Cert.ReferenceIdeal.Ref
-- ==== Proof.RefPre.lean ====
/-
  The precondition read back: where it holds, every entry of the three arguments is real and no selection's
  denominator is zero.
-/
module

public import proofs.«01_k».proof.Pre_finite_and_divisible
public import proofs.«01_k».proof.Proof.RefDefs

@[expose] public section

noncomputable section

namespace Cert.Pre_finite_and_divisible

open Idealize.ShloMosaic

/-- The shape facts the precondition states. -/
theorem facts : Facts := by constructor <;> decide

end Cert.Pre_finite_and_divisible

namespace Cert.ReferenceIdeal.Ref

open Idealize.ShloMosaic Cert.ReferenceIdeal Facts₀ Facts

variable {F : FTy → Type} [FloatOps F]

/-- Where every entry of an array is below infinity in absolute value. -/
def finite (x : FVec F S1x8x1024x64 .f32) : IVec S1x8x1024x64 1 :=
  cmpf .olt (Host.absf x) (broadcastInDim S1x8x1024x64 ![] bcast_S_S1x8x1024x64 (constant S_ .f32 0x7F800000#32))

/-- Where a selection's denominator is not zero. -/
def divisible (k q : FVec F S1x8x1024x64 .f32) (r : Fin 4) : IVec S1x8x1024x64 1 :=
  broadcastInDim S1x8x1024x64 ![0, 1, 2, 3] bcast_S1x8x1024x1_S1x8x1024x64_0_1_2_3
    (cmpf .une (den (memZ k) q (col (topIdx q) r))
      (broadcastInDim S1x8x1024x1 ![] bcast_S_S1x8x1024x1 (constant S_ .f32 0x00000000#32)))

set_option maxRecDepth 8192 in
/-- The precondition, in the reference's own parts. -/
theorem pre_eq [Cert.Pre_finite_and_divisible.Facts] (k v q : FVec F S1x8x1024x64 .f32) :
    Cert.Pre_finite_and_divisible.fn k v q
      = andi (andi (andi (andi (andi (andi (finite k) (finite v)) (finite q)) (divisible k q 0)) (divisible k q 1))
          (divisible k q 2)) (divisible k q 3) := rfl

end Cert.ReferenceIdeal.Ref
-- ==== Proof.Equation.lean ====
/-
  Under the precondition the kernel's result array is the reference's.
-/
module

public import proofs.«01_k».proof.Proof.HeadWhole
public import proofs.«01_k».proof.Proof.RefValue
public import proofs.«01_k».proof.Proof.RefPre

@[expose] public section

noncomputable section

namespace Cert.Equation

open Idealize.ShloMosaic Cert.ReferenceIdeal Cert.ReferenceIdeal.Ref Cert.Reals

/-- A conjunction of two bits that is one has both one. -/
theorem and_one {a b : BitVec 1} : IntOp.andi a b = 1#1 ↔ a = 1#1 ∧ b = 1#1 := by
  revert a b; decide

variable {k v q : FVec Ideal S1x8x1024x64 .f32}

/-- An array whose entries are all below infinity in absolute value is real. -/
theorem exists_real4 {x : FVec Ideal S1x8x1024x64 .f32} (hx : ∀ i, finite x i = 1#1) :
    ∃ X : Fin 8 → Fin 1024 → Fin 64 → ℝ, Real4 x X := by
  have h : ∀ h t e, ∃ r : ℝ, x (ix4 0 h t e) = (r : EReal) := by
    intro h t e
    refine exists_real ?_
    have := hx (ix4 0 h t e)
    have e : finite x (ix4 0 h t e)
        = BitVec.ofBool (decide (max (x (ix4 0 h t e)) (-(x (ix4 0 h t e))) < Ideal.ofBits .f32 0x7F800000#32)) := rfl
    rw [e, posInf_eq] at this
    by_contra hn
    simp [hn] at this
  choose X hX using h
  exact ⟨X, hX⟩

/-- Where a selection's denominator is not zero, its real value is not zero. -/
theorem den_ne_zero {K Q : Fin 8 → Fin 1024 → Fin 64 → ℝ} (hk : Real4 k K) (hq : Real4 q Q) (r : Fin 4)
    (hd : ∀ i, divisible k q r i = 1#1) (h : Fin 8) (s : Fin 1024) : Cert.Spec.den (K h) (Q h) eps s r ≠ 0 := by
  intro h0
  have := hd (ix4 0 h s 0)
  have e : divisible k q r (ix4 0 h s 0)
      = FloatOps.cmpf (F := Ideal) (φ := .f32) .une (den (memZ k) q (col (topIdx q) r) (ix4 0 h s 0)) (Ideal.ofBits .f32 0x00000000#32) := by
    unfold divisible; pointwise
  rw [e, den_real hk hq, h0, zero_eq, Ideal.cmpf_def] at this
  simp [Ideal.cmp] at this

/-- The two results are equal where the precondition holds. -/
theorem result_eq_out [Cert.Pre_finite_and_divisible.Facts]
    (hp : Cert.Pre_finite_and_divisible.fn (F := Ideal) k v q = fun _ => 1#1) :
    (Cert.KernelIdeal.Head.result (F := Ideal) k v q : FVec Ideal S1x8x1024x64 .f32) = Cert.ReferenceIdeal.Ref.out k v q := by
  rw [pre_eq] at hp
  have hall : ∀ i, (((((finite k i = 1#1 ∧ finite v i = 1#1) ∧ finite q i = 1#1) ∧ divisible k q 0 i = 1#1)
      ∧ divisible k q 1 i = 1#1) ∧ divisible k q 2 i = 1#1) ∧ divisible k q 3 i = 1#1 := fun i => by
    have := congrFun hp i
    simp only [← and_one]
    exact this
  obtain ⟨K, hk⟩ := exists_real4 fun i => (hall i).1.1.1.1.1.1
  obtain ⟨V, hv⟩ := exists_real4 fun i => (hall i).1.1.1.1.1.2
  obtain ⟨Q, hq⟩ := exists_real4 fun i => (hall i).1.1.1.1.2
  have hd : ∀ h s, ∀ r : Fin 4, Cert.Spec.den (K h) (Q h) eps s r ≠ 0 := by
    intro h s r
    match r with
    | 0 => exact den_ne_zero hk hq 0 (fun i => (hall i).1.1.1.2) h s
    | 1 => exact den_ne_zero hk hq 1 (fun i => (hall i).1.1.2) h s
    | 2 => exact den_ne_zero hk hq 2 (fun i => (hall i).1.2) h s
    | 3 => exact den_ne_zero hk hq 3 (fun i => (hall i).2) h s
  funext i
  obtain ⟨z, h, s, d, rfl⟩ : ∃ (z : Fin 1) (h : Fin 8) (s : Fin 1024) (d : Fin 64), i = ix4 z h s d :=
    ⟨i 0, i 1, i 2, i 3, by funext x; fin_cases x <;> rfl⟩
  obtain rfl : z = 0 := Subsingleton.elim _ _
  rw [out_real hk hv hq h s d (hd h s), ← Cert.Spec.byKey_eq_byRound]
  refine (Cert.KernelIdeal.Head.result_apply k v q h s d).trans ?_
  exact Cert.KernelIdeal.Head.out_real (fun t e => hk h t e) (fun t e => hv h t e) (fun t e => hq h t e)
    (fun s r hr => hd h s ⟨r, hr⟩) s d

end Cert.Equation
-- ==== Proof.RefRun.lean ====
/-
  The reference's run: every weakly fair execution ends with the result buffer at `Ref.out` of the arguments
  and with the arguments unchanged.
-/
module

public import proofs.«01_k».proof.Proof.RefDefs
public import Idealize.ShloMosaic.Lib.StableHlo.Run
public import Idealize.ShloMosaic.Lib.StableHlo.RunHlo
public import Idealize.ShloMosaic.Lib.StableHlo.RunRead
public import Idealize.ShloMosaic.Lib.Claim

@[expose] public section

set_option Elab.async false

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- A function of three arrays, applied to them one by one. -/
def apply3 {Val : EltTy → Type} {a b c y : Ref sig .tc}
    (f : ((k : Fin 3) → ((![a, b, c] : Fin 3 → Ref sig .tc) k).ty.Contents Val) → y.ty.Contents Val)
    (u : a.ty.Contents Val) (v : b.ty.Contents Val) (w : c.ty.Contents Val) : y.ty.Contents Val :=
  f (Fin.cons u (Fin.cons v (Fin.cons w fun i => i.elim0)))

/-- An operation of three operands leaves its function of the three operands' contents in its result. -/
theorem nary3_result {Val : EltTy → Type} {a b c y : Ref sig .tc}
    (f : ((k : Fin 3) → ((![a, b, c] : Fin 3 → Ref sig .tc) k).ty.Contents Val) → y.ty.Contents Val) (hxs hy)
    (V : Valuation τ sig Val) :
    (nary (τ := τ) ![a, b, c] y f hxs hy).result V (no_index (Proc.devRef .tc y))
      = apply3 f (V (Proc.devRef .tc a)) (V (Proc.devRef .tc b)) (V (Proc.devRef .tc c)) := by
  rw [nary_result', apply3]; congr 1; funext k; fin_cases k <;> rfl

/-- A read after a line of operations, cut at the `n`-th: from what holds of the contents there. -/
theorem after_split {Val : EltTy → Type} (n : ℕ) {ops : List (HloOp τ sig Val)} {V : Valuation τ sig Val}
    {r : DevRef τ sig} {x : r.ty.Contents Val} (P : Valuation τ sig Val → Prop) (h₁ : P (after (ops.take n) V))
    (h₂ : ∀ W, P W → after (ops.drop n) W r = x) : after ops V r = x := by
  rw [← List.take_append_drop n ops, after_append]
  exact h₂ _ h₁

/-- What the operations before the first selection leave: the two memories, the selected bases, their weights and
    the batch and head numbers; and the queries, which nothing overwrites. -/
structure Ready (k v q : FVec F S1x8x1024x64 .f32) (W : Valuation τ sig (Elt F)) : Prop where
  mem : W (Proc.devRef .tc main_v19) = memM k v
  norm : W (Proc.devRef .tc main_v24) = memZ k
  query : W (Proc.devRef .tc main_arg2) = q
  idx : W (Proc.devRef .tc main_indices) = topIdx q
  weight : W (Proc.devRef .tc main_v36) = weights (topVal q)
  batch : W (Proc.devRef .tc main_v39) = broadcastInDim S1x1x1 ![0] Facts₀.bcast_S1_S1x1x1_0 (iotaInDim S1 32 0)
  head : W (Proc.devRef .tc main_v41) = broadcastInDim S1x8x1 ![1] Facts₀.bcast_S8_S1x8x1_1 (iotaInDim S8 32 0)

/-- The result of the first `r` selections. -/
def partialOut (k v q : FVec F S1x8x1024x64 .f32) : ℕ → FVec F S1x8x1024x64 .f32
  | 0 => broadcastInDim S1x8x1024x64 ![] Facts₀.bcast_S_S1x8x1024x64 (constant S_ .f32 0x00000000#32)
  | r + 1 => addf (partialOut k v q r) (round k v q (Fin.ofNat 4 r))

/-- The partial results and the columns of selected bases, with no more said of them than how each partial result
    comes of the one before. -/
theorem exists_partial (k v q : FVec F S1x8x1024x64 .f32) :
    ∃ (I : Fin 4 → IVec S1x8x1024 32) (P : ℕ → FVec F S1x8x1024x64 .f32), (∀ r, I r = col (topIdx q) r)
      ∧ P 0 = broadcastInDim S1x8x1024x64 ![] Facts₀.bcast_S_S1x8x1024x64 (constant S_ .f32 0x00000000#32)
      ∧ (∀ r : Fin 4, P (r + 1) = addf (P r) (term (memM k v) (memZ k) q (I r) (col (weights (topVal q)) r)))
      ∧ P 4 = out k v q :=
  ⟨col (topIdx q), partialOut k v q, fun _ => rfl, rfl, fun r => by
    show addf _ (round k v q (Fin.ofNat 4 r)) = _
    rw [show Fin.ofNat 4 r = r from Fin.ext (Nat.mod_eq_of_lt r.isLt)]; rfl, rfl⟩

set_option maxRecDepth 16384 in
set_option maxHeartbeats 4000000 in
/-- The reference runs, ends with `out` of its arguments in its result, and keeps its arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v277)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine θ_run_mono (run_hlo _ _ (by hlo_seq) (by decide) (by decide) (by simp)
    (by intro _ h; (repeat (cases h with | head => rfl | tail _ h => ?_)); exact nomatch h) _ _) ?_
  intro r h c
  have h0 := h c main_v277
  have h1 := h c main_arg0
  have h2 := h c main_arg1
  have h3 := h c main_arg2
  clear h
  refine ⟨h0.trans ?_, h1.trans ?_, h2.trans ?_, h3.trans ?_⟩
  · clear h0 h1 h2 h3
    generalize hk : m ((c.tc : Thread nD τ).loc main_arg0) = k
    generalize hv : m ((c.tc : Thread nD τ).loc main_arg1) = v
    generalize hq : m ((c.tc : Thread nD τ).loc main_arg2) = q
    obtain ⟨I, P, hI, hP0, hP, hout⟩ := exists_partial k v q
    refine after_split 55 (fun W => Ready k v q W ∧ W (Proc.devRef .tc main_v37) = P 0) ?_ ?_
    · rw [hP0]
      subst hk hv hq
      refine ⟨⟨?_, ?_, ?_, ?_, ?_, ?_, ?_⟩, ?_⟩
      all_goals
        dsimp only [List.take]
        simp (disch := decide) only [readAfter, readUpto, nullary_result', unary_result', binary_result', ternary_result',
          quaternary_result', reshape_result', nary3_result]
      all_goals rfl
    clear hk hv hq hP0
    rw [← hout]
    refine fun W h =>
      after_split 2 (fun W => Ready k v q W ∧ W (Proc.devRef .tc main_v37) = P 0 ∧ W (Proc.devRef .tc main_v43) = I 0)
        ⟨⟨?_, ?_, ?_, ?_, ?_, ?_, ?_⟩, ?_, ?_⟩ fun W h =>
      after_split 70 (fun W => Ready k v q W ∧ W (Proc.devRef .tc main_v100) = P 1)
        ⟨⟨?_, ?_, ?_, ?_, ?_, ?_, ?_⟩, ?_⟩ fun W h =>
      after_split 2 (fun W => Ready k v q W ∧ W (Proc.devRef .tc main_v100) = P 1 ∧ W (Proc.devRef .tc main_v102) = I 1)
        ⟨⟨?_, ?_, ?_, ?_, ?_, ?_, ?_⟩, ?_, ?_⟩ fun W h =>
      after_split 70 (fun W => Ready k v q W ∧ W (Proc.devRef .tc main_v159) = P 2)
        ⟨⟨?_, ?_, ?_, ?_, ?_, ?_, ?_⟩, ?_⟩ fun W h =>
      after_split 2 (fun W => Ready k v q W ∧ W (Proc.devRef .tc main_v159) = P 2 ∧ W (Proc.devRef .tc main_v161) = I 2)
        ⟨⟨?_, ?_, ?_, ?_, ?_, ?_, ?_⟩, ?_, ?_⟩ fun W h =>
      after_split 70 (fun W => Ready k v q W ∧ W (Proc.devRef .tc main_v218) = P 3)
        ⟨⟨?_, ?_, ?_, ?_, ?_, ?_, ?_⟩, ?_⟩ fun W h =>
      after_split 2 (fun W => Ready k v q W ∧ W (Proc.devRef .tc main_v218) = P 3 ∧ W (Proc.devRef .tc main_v220) = I 3)
        ⟨⟨?_, ?_, ?_, ?_, ?_, ?_, ?_⟩, ?_, ?_⟩ fun W h =>
      after_split 70 (fun W => Ready k v q W ∧ W (Proc.devRef .tc main_v277) = P 4)
        ⟨⟨?_, ?_, ?_, ?_, ?_, ?_, ?_⟩, ?_⟩ fun W h =>
      h.2
    all_goals
      dsimp only [List.take, List.drop]
      simp (disch := decide) only [readAfter, readUpto, nullary_result', unary_result', binary_result', ternary_result',
        quaternary_result', reshape_result', nary3_result, h.1.mem, h.1.norm, h.1.query, h.1.idx,
        h.1.weight, h.1.batch, h.1.head, h.2]
    · exact (hI 0).symm
    · exact (hP 0).symm
    · exact (hI 1).symm
    · exact (hP 1).symm
    · exact (hI 2).symm
    · exact (hP 2).symm
    · exact (hI 3).symm
    · exact (hP 3).symm
  · after_reads_simp <;> rfl
  · after_reads_simp <;> rfl
  · after_reads_simp <;> rfl

end Cert.ReferenceIdeal.Ref
-- ==== Proof.lean ====
/-
  The proof of `Cert.Claim`: the kernel as printed and read at the extended reals, and the reference, all run,
  leave their arguments unchanged and every semaphore at zero; the idealization rewrites nothing; and under the
  precondition the kernel's result at the extended reals is the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Equation
public import proofs.«01_k».proof.Proof.RefRun
public import Idealize.ShloMosaic.Lib.Claim
public import Idealize.ShloMosaic.Lib.Quiescent

@[expose] public section

noncomputable section

namespace Cert.Proof

open Idealize.ShloMosaic Idealize.SL.Sem

/-- The kernel as printed runs, keeps its arguments and ends quiescent. -/
theorem kernel_quiescent : Cert.quiescent_Kernel := fun m g _ => Cert.Kernel.Gen.frame m g

/-- So does the kernel at the extended reals. -/
theorem kernelIdeal_quiescent : Cert.quiescent_KernelIdeal := fun m g _ => Cert.KernelIdeal.Gen.frame m g

/-- So does the reference. -/
theorem reference_quiescent : Cert.quiescent_ReferenceIdeal := fun m g _ =>
  θ_run_mono (Cert.ReferenceIdeal.Ref.run m g) fun r h =>
    ⟨fun c => (h c).2, Idealize.ShloMosaic.sem_eq_zero_of_no_sems (by decide) r.2⟩

/-- From equal arguments of which the precondition holds, the kernel and the reference end with equal results. -/
theorem algebraic : Cert.algebraic_KernelIdeal_ReferenceIdeal_pre_finite_and_divisible
    (hPre_finite_and_divisible := Cert.Pre_finite_and_divisible.facts) := by
  intro m g m' g' hpre hagree
  refine ⟨_, Cert.KernelIdeal.Value.run m g, θ_run_mono (Cert.ReferenceIdeal.Ref.run m' g') fun r h c => ?_⟩
  refine ⟨(h c).1.trans ?_, (h c).2⟩
  obtain ⟨e0, e1, e2⟩ := hagree c
  rw [e0, e1, e2]
  haveI := Cert.Pre_finite_and_divisible.facts
  exact ((Cert.KernelIdeal.Head.result_eq _ _ _).trans (Cert.Equation.result_eq_out (hpre c))).symm

theorem claim : Cert.Claim :=
  ⟨Cert.Kernel.Gen.facts, Cert.KernelIdeal.Gen.facts, Cert.ReferenceIdeal.Gen.facts, Cert.Pre_finite_and_divisible.facts,
    kernel_quiescent, kernelIdeal_quiescent, fun m g _ => kernelIdeal_quiescent m g trivial, reference_quiescent,
    fun m g _ => reference_quiescent m g trivial, trivial, algebraic⟩

end Cert.Proof

end
